-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range_KernelIdeal [hPre_finite_and_in_range_KernelIdeal : Cert.Pre_finite_and_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range_ReferenceIdeal [hPre_finite_and_in_range_ReferenceIdeal : Cert.Pre_finite_and_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_in_range_KernelIdeal [hKernelIdeal : Cert.KernelIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_in_range_ReferenceIdeal [hReferenceIdeal : Cert.ReferenceIdeal.Facts] [hPre_finite_and_in_range_ReferenceIdeal : Cert.Pre_finite_and_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_in_range_KernelIdeal [hKernelIdeal : Cert.KernelIdeal.Facts] [hReferenceIdeal : Cert.ReferenceIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![16384, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 2]⟩ ⟨2, ![16384, 2]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.block ⟨2, ![2048, 1024]⟩ ⟨2, ![16384, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_in_range_KernelIdeal : Cert.Pre_finite_and_in_range_KernelIdeal.Facts) (hPre_finite_and_in_range_ReferenceIdeal : Cert.Pre_finite_and_in_range_ReferenceIdeal.Facts),
    quiescent_Kernel (hKernel := hKernel)
    ∧ quiescent_KernelIdeal (hKernelIdeal := hKernelIdeal)
    ∧ quiescent_KernelIdeal_pre_finite_and_in_range_KernelIdeal (hKernelIdeal := hKernelIdeal) (hPre_finite_and_in_range_KernelIdeal := hPre_finite_and_in_range_KernelIdeal)
    ∧ quiescent_ReferenceIdeal (hReferenceIdeal := hReferenceIdeal)
    ∧ quiescent_ReferenceIdeal_pre_finite_and_in_range_ReferenceIdeal (hReferenceIdeal := hReferenceIdeal) (hPre_finite_and_in_range_ReferenceIdeal := hPre_finite_and_in_range_ReferenceIdeal)
    ∧ preserves_Kernel_KernelIdeal
    ∧ algebraic_KernelIdeal_ReferenceIdeal_pre_finite_and_in_range_KernelIdeal (hKernelIdeal := hKernelIdeal) (hReferenceIdeal := hReferenceIdeal) (hPre_finite_and_in_range_KernelIdeal := hPre_finite_and_in_range_KernelIdeal)
-- ==== Pre_finite_and_in_range_KernelIdeal.lean ====
abbrev S2048x512 : Shape := ⟨2, ![2048, 512]⟩
abbrev S512x32 : Shape := ⟨2, ![512, 32]⟩
abbrev S2048x2 : Shape := ⟨2, ![2048, 2]⟩
abbrev S4x512x1024 : Shape := ⟨3, ![4, 512, 1024]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn_part1 {F : FTy → Type} [FloatOps F] (main_v15 : IVec S_ 1) (main_v16 : IVec S_ 1) : IVec S_ 1 :=
  let main_v17 : IVec S_ 1 := andi main_v16 main_v15
  main_v17

def fn {F : FTy → Type} [FloatOps F] (main_arg0 : FVec F S2048x512 .bf16) (main_arg1 : FVec F S512x32 .bf16) (main_arg2 : IVec S2048x2 32) (main_arg3 : FVec F S4x512x1024 .bf16) : IVec S_ 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_c : IVec S_ 1 := constantI S_ 1 1#1
  let main_v4 : IVec S_ 1 := (fun x v => Host.reduce IntOp.andi x v reducesTo_S2048x512_S_d0_1 h_S_) main_v3 main_c
  let main_v5 : FVec F S512x32 .f32 := (extf .f32 · bitsLt_bf16_f32) main_arg1
  let main_v6 : FVec F S512x32 .f32 := Host.absf main_v5
  let main_cst_0 : FVec F S_ .f32 := constant S_ .f32 0x7F800000#32
  let main_v7 : FVec F S512x32 .f32 := broadcastInDim S512x32 ![] bcast_S_S512x32 main_cst_0
  let main_v8 : IVec S512x32 1 := cmpf .olt main_v6 main_v7
  let main_c_1 : IVec S_ 1 := constantI S_ 1 1#1
  let main_v9 : IVec S_ 1 := (fun x v => Host.reduce IntOp.andi x v reducesTo_S512x32_S_d0_1 h_S_) main_v8 main_c_1
  let main_c_2 : IVec S_ 32 := constantI S_ 32 0#32
  let main_v10 : IVec S2048x2 32 := broadcastInDim S2048x2 ![] bcast_S_S2048x2 main_c_2
  let main_v11 : IVec S2048x2 1 := cmpi .sge main_arg2 main_v10
  let main_c_3 : IVec S_ 32 := constantI S_ 32 32#32
  let main_v12 : IVec S2048x2 32 := broadcastInDim S2048x2 ![] bcast_S_S2048x2 main_c_3
  let main_v13 : IVec S2048x2 1 := cmpi .slt main_arg2 main_v12
  let main_v14 : IVec S2048x2 1 := andi main_v11 main_v13
  let main_c_4 : IVec S_ 1 := constantI S_ 1 1#1
  let main_v15 : IVec S_ 1 := (fun x v => Host.reduce IntOp.andi x v reducesTo_S2048x2_S_d0_1 h_S_) main_v14 main_c_4
  let main_v16 : IVec S_ 1 := andi main_v4 main_v9
  fn_part1 (F := F) main_v15 main_v16
-- ==== Pre_finite_and_in_range_ReferenceIdeal.lean ====
abbrev S16384x512 : Shape := ⟨2, ![16384, 512]⟩
abbrev S512x32 : Shape := ⟨2, ![512, 32]⟩
abbrev S16384x2 : Shape := ⟨2, ![16384, 2]⟩
abbrev S32x512x1024 : Shape := ⟨3, ![32, 512, 1024]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S16384x2 : S_.BroadcastsInDim S16384x2 (![] : Fin 0 → Fin S16384x2.rank)
  reducesTo_S16384x2_S_d0_1 : S16384x2.ReducesTo [0, 1] S_

variable [Facts]

def fn_part1 {F : FTy → Type} [FloatOps F] (main_v15 : IVec S_ 1) (main_v16 : IVec S_ 1) : IVec S_ 1 :=
  let main_v17 : IVec S_ 1 := andi main_v16 main_v15
  main_v17

def fn {F : FTy → Type} [FloatOps F] (main_arg0 : FVec F S16384x512 .bf16) (main_arg1 : FVec F S512x32 .bf16) (main_arg2 : IVec S16384x2 32) (main_arg3 : FVec F S32x512x1024 .bf16) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S512x32 .f32 := (extf .f32 · bitsLt_bf16_f32) main_arg1
  let main_v6 : FVec F S512x32 .f32 := Host.absf main_v5
  let main_cst_0 : FVec F S_ .f32 := constant S_ .f32 0x7F800000#32
  let main_v7 : FVec F S512x32 .f32 := broadcastInDim S512x32 ![] bcast_S_S512x32 main_cst_0
  let main_v8 : IVec S512x32 1 := cmpf .olt main_v6 main_v7
  let main_c_1 : IVec S_ 1 := constantI S_ 1 1#1
  let main_v9 : IVec S_ 1 := (fun x v => Host.reduce IntOp.andi x v reducesTo_S512x32_S_d0_1 h_S_) main_v8 main_c_1
  let main_c_2 : IVec S_ 32 := constantI S_ 32 0#32
  let main_v10 : IVec S16384x2 32 := broadcastInDim S16384x2 ![] bcast_S_S16384x2 main_c_2
  let main_v11 : IVec S16384x2 1 := cmpi .sge main_arg2 main_v10
  let main_c_3 : IVec S_ 32 := constantI S_ 32 32#32
  let main_v12 : IVec S16384x2 32 := broadcastInDim S16384x2 ![] bcast_S_S16384x2 main_c_3
  let main_v13 : IVec S16384x2 1 := cmpi .slt main_arg2 main_v12
  let main_v14 : IVec S16384x2 1 := andi main_v11 main_v13
  let main_c_4 : IVec S_ 1 := constantI S_ 1 1#1
  let main_v15 : IVec S_ 1 := (fun x v => Host.reduce IntOp.andi x v reducesTo_S16384x2_S_d0_1 h_S_) main_v14 main_c_4
  let main_v16 : IVec S_ 1 := andi main_v4 main_v9
  fn_part1 (F := F) main_v15 main_v16
-- ==== Kernel.lean ====
abbrev S2048x512 : Shape := ⟨2, ![2048, 512]⟩
abbrev S512x32 : Shape := ⟨2, ![512, 32]⟩
abbrev S2048x2 : Shape := ⟨2, ![2048, 2]⟩
abbrev S4x512x1024 : Shape := ⟨3, ![4, 512, 1024]⟩
abbrev S2048x1024 : Shape := ⟨2, ![2048, 1024]⟩
abbrev S1024x1024 : Shape := ⟨2, ![1024, 1024]⟩
abbrev S7x1024x1024 : Shape := ⟨3, ![7, 1024, 1024]⟩
abbrev S7 : Shape := ⟨1, ![7]⟩
abbrev S_ : Shape := ⟨0, ![]⟩
abbrev S1 : Shape := ⟨1, ![1]⟩
abbrev S1x1024x1024 : Shape := ⟨3, ![1, 1024, 1024]⟩
abbrev S2048x32 : Shape := ⟨2, ![2048, 32]⟩
abbrev S2048x1 : Shape := ⟨2, ![2048, 1]⟩
abbrev S2048 : Shape := ⟨1, ![2048]⟩

abbrev nBuf : Space → Nat
  | .hbm => 9
  | .vmem => 9
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x2, .i32⟩
  | .hbm, ⟨3, _⟩ => ⟨S4x512x1024, .bf16⟩
  | .hbm, ⟨4, _⟩ => ⟨S2048x1024, .bf16⟩
  | .hbm, ⟨5, _⟩ => ⟨S1024x1024, .bf16⟩
  | .hbm, ⟨6, _⟩ => ⟨S1024x1024, .bf16⟩
  | .hbm, ⟨7, _⟩ => ⟨S2048x1024, .bf16⟩
  | .hbm, ⟨8, _⟩ => ⟨S2048x1024, .f32⟩
  | .local _ .vmem, ⟨0, _⟩ => ⟨S2048x512, .bf16⟩
  | .local _ .vmem, ⟨1, _⟩ => ⟨S512x32, .bf16⟩
  | .local _ .vmem, ⟨2, _⟩ => ⟨S2048x2, .i32⟩
  | .local _ .vmem, ⟨3, _⟩ => ⟨S1024x1024, .bf16⟩
  | .local _ .vmem, ⟨4, _⟩ => ⟨S1024x1024, .bf16⟩
  | .local _ .vmem, ⟨5, _⟩ => ⟨S2048x1024, .bf16⟩
  | .local _ .vmem, ⟨6, _⟩ => ⟨S7x1024x1024, .bf16⟩
  | .local _ .vmem, ⟨7, _⟩ => ⟨S7x1024x1024, .bf16⟩
  | .local _ .vmem, ⟨8, _⟩ => ⟨S2048x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_11 : BitVec 32 := 1#32
  let v12 : BitVec 32 := Scalar.muli v6 c1_i32_11
  let v13 : BitVec 32 := Scalar.addi c0_i32_12 v12
  v13.toNat
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_18 : BitVec 32 := 1#32
  let v20 : BitVec 32 := Scalar.muli v4 c1_i32_18
  let v21 : BitVec 32 := Scalar.addi c0_i32_19 v20
  v21.toNat
def k0_dev5 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_87 : BitVec 32 := 1#32
  let v149 : BitVec 32 := Scalar.muli v6 c1_i32_87
  let v150 : BitVec 32 := Scalar.addi c0_i32_88 v149
  v150.toNat
def k0_dev6 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_97 : BitVec 32 := 1#32
  let v159 : BitVec 32 := Scalar.muli v4 c1_i32_97
  let v160 : BitVec 32 := Scalar.addi c0_i32_98 v159
  v160.toNat
def k0_dev7 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_175 : BitVec 32 := 1#32
  let v273 : BitVec 32 := Scalar.muli v6 c1_i32_175
  let v274 : BitVec 32 := Scalar.addi c0_i32_176 v273
  v274.toNat
def k0_dev8 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_185 : BitVec 32 := 1#32
  let v283 : BitVec 32 := Scalar.muli v4 c1_i32_185
  let v284 : BitVec 32 := Scalar.addi c0_i32_186 v283
  v284.toNat
def k0_dev9 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_261 : BitVec 32 := 1#32
  let v397 : BitVec 32 := Scalar.muli v6 c1_i32_261
  let v398 : BitVec 32 := Scalar.addi c0_i32_262 v397
  v398.toNat
def k0_dev10 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_271 : BitVec 32 := 1#32
  let v407 : BitVec 32 := Scalar.muli v4 c1_i32_271
  let v408 : BitVec 32 := Scalar.addi c0_i32_272 v407
  v408.toNat
def k0_dev11 (d0 : Dev nD) : Nat :=
  let c0_i32_349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_348 : BitVec 32 := 1#32
  let v521 : BitVec 32 := Scalar.muli v6 c1_i32_348
  let v522 : BitVec 32 := Scalar.addi c0_i32_349 v521
  v522.toNat
def k0_dev12 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_358 : BitVec 32 := 1#32
  let v531 : BitVec 32 := Scalar.muli v4 c1_i32_358
  let v532 : BitVec 32 := Scalar.addi c0_i32_359 v531
  v532.toNat
def k0_dev13 (d0 : Dev nD) : Nat :=
  let c0_i32_437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_436 : BitVec 32 := 1#32
  let v645 : BitVec 32 := Scalar.muli v6 c1_i32_436
  let v646 : BitVec 32 := Scalar.addi c0_i32_437 v645
  v646.toNat
def k0_dev14 (d0 : Dev nD) : Nat :=
  let c0_i32_447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_446 : BitVec 32 := 1#32
  let v655 : BitVec 32 := Scalar.muli v4 c1_i32_446
  let v656 : BitVec 32 := Scalar.addi c0_i32_447 v655
  v656.toNat
def k0_dev15 (d0 : Dev nD) : Nat :=
  let c0_i32_525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_524 : BitVec 32 := 1#32
  let v769 : BitVec 32 := Scalar.muli v6 c1_i32_524
  let v770 : BitVec 32 := Scalar.addi c0_i32_525 v769
  v770.toNat
def k0_dev16 (d0 : Dev nD) : Nat :=
  let c0_i32_535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_534 : BitVec 32 := 1#32
  let v779 : BitVec 32 := Scalar.muli v4 c1_i32_534
  let v780 : BitVec 32 := Scalar.addi c0_i32_535 v779
  v780.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16384x512 : Shape := ⟨2, ![16384, 512]⟩
abbrev S512x32 : Shape := ⟨2, ![512, 32]⟩
abbrev S16384x2 : Shape := ⟨2, ![16384, 2]⟩
abbrev S32x512x1024 : Shape := ⟨3, ![32, 512, 1024]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S16384x1x1 : Shape := ⟨3, ![16384, 1, 1]⟩
abbrev S16384x512x1024 : Shape := ⟨3, ![16384, 512, 1024]⟩
abbrev S16384x1024 : Shape := ⟨2, ![16384, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x32, .bf16⟩
  | .hbm, ⟨2, _⟩ => ⟨S16384x2, .i32⟩
  | .hbm, ⟨3, _⟩ => ⟨S32x512x1024, .bf16⟩
  | .hbm, ⟨4, _⟩ => ⟨S16384x512, .f32⟩
  | .hbm, ⟨5, _⟩ => ⟨S512x32, .f32⟩
  | .hbm, ⟨6, _⟩ => ⟨S16384x32, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S16384x32, .f32⟩
  | .hbm, ⟨11, _⟩ => ⟨S16384x32, .f32⟩
  | .hbm, ⟨12, _⟩ => ⟨S16384x32, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x32, .f32⟩
  | .hbm, ⟨17, _⟩ => ⟨S16384x32, .f32⟩
  | .hbm, ⟨18, _⟩ => ⟨S16384x1, .i32⟩
  | .hbm, ⟨19, _⟩ => ⟨S16384x1, .i32⟩
  | .hbm, ⟨20, _⟩ => ⟨S_, .i32⟩
  | .hbm, ⟨21, _⟩ => ⟨S16384x1, .i32⟩
  | .hbm, ⟨22, _⟩ => ⟨S16384x1, .i1⟩
  | .hbm, ⟨23, _⟩ => ⟨S_, .i32⟩
  | .hbm, ⟨24, _⟩ => ⟨S16384x1, .i32⟩
  | .hbm, ⟨25, _⟩ => ⟨S16384x1, .i32⟩
  | .hbm, ⟨26, _⟩ => ⟨S16384x1, .i32⟩
  | .hbm, ⟨27, _⟩ => ⟨S16384x1x1, .i32⟩
  | .hbm, ⟨28, _⟩ => ⟨S16384x1, .f32⟩
  | .hbm, ⟨29, _⟩ => ⟨S_, .i32⟩
  | .hbm, ⟨30, _⟩ => ⟨S16384x1, .i32⟩
  | .hbm, ⟨31, _⟩ => ⟨S16384x1, .i1⟩
  | .hbm, ⟨32, _⟩ => ⟨S_, .i32⟩
  | .hbm, ⟨33, _⟩ => ⟨S16384x1, .i32⟩
  | .hbm, ⟨34, _⟩ => ⟨S16384x1, .i32⟩
  | .hbm, ⟨35, _⟩ => ⟨S16384x1, .i32⟩
  | .hbm, ⟨36, _⟩ => ⟨S16384x1x1, .i32⟩
  | .hbm, ⟨37, _⟩ => ⟨S16384x1, .f32⟩
  | .hbm, ⟨38, _⟩ => ⟨S16384x1, .f32⟩
  | .hbm, ⟨39, _⟩ => ⟨S16384x512, .f32⟩
  | .hbm, ⟨40, _⟩ => ⟨S32x512x1024, .f32⟩
  | .hbm, ⟨41, _⟩ => ⟨S16384x1, .i32⟩
  | .hbm, ⟨42, _⟩ => ⟨S16384, .i32⟩
  | .hbm, ⟨43, _⟩ => ⟨S16384x1, .i32⟩
  | .hbm, ⟨44, _⟩ => ⟨S16384x512x1024, .f32⟩
  | .hbm, ⟨45, _⟩ => ⟨S16384x1, .i32⟩
  | .hbm, ⟨46, _⟩ => ⟨S16384, .i32⟩
  | .hbm, ⟨47, _⟩ => ⟨S16384x1, .i32⟩
  | .hbm, ⟨48, _⟩ => ⟨S16384x512x1024, .f32⟩
  | .hbm, ⟨49, _⟩ => ⟨S16384x1024, .f32⟩
  | .hbm, ⟨50, _⟩ => ⟨S16384x1024, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_v14 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call2_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call3_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Proof.Protocol.lean ====
/-
  The communication protocol of the kernel: eight devices in a ring, each passing weight blocks to both neighbours.

  Direction 0 moves blocks to the right (device c to c + 1), direction 1 to the left (c to c - 1). In each direction
  there are seven hops. At hop h device c sends what it holds in that direction (its own block at hop 0, else slot
  h - 1 of its landing buffer) into slot h of the next device's landing buffer, and waits for its own slot h.

  Per device the cells are: the barrier semaphore; a send and a receive semaphore for every direction and hop.
  - Barrier: one unit from each neighbour. The unit of direction d comes from the device this one sends to in direction d
    and hands over that device's whole landing buffer of direction d.
  - Receive (d, h): one landing, which hands over slot h holding the block that started h + 1 devices behind.
  - Send (d, h): the copy's own completion, which hands back the lent half of the source.
-/
module

public import proofs.«01_k».proof.Proof.Gen.KernelIdeal.Frame
public import proofs.«01_k».proof.Proof.Gen.KernelIdeal.Skeleton
public import Idealize.ShloMosaic.Lib.Pipeline.RegionTalk
public import Idealize.ShloMosaic.Lib.Pipeline.TableIdle
public import Idealize.ShloMosaic.Lib.MemrefSat
public import Idealize.ShloMosaic.Lib.Rounds
public import Idealize.ShloMosaic.Lib.Rounds.Family
public import Idealize.ShloMosaic.Harness.Basic

@[expose] public section

set_option maxRecDepth 16384

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The round algebra of this protocol: its barrier has two duties. -/
abbrev UX : Type := URounds (GSem nD τ sig) (Fin 2)
/-- Two copies of the round algebra: the staging pipeline's and this protocol's. -/
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## The ring -/

/-- The device that device `c` sends to in direction `d`. -/
def nxt (d : Fin 2) (c : Dev nD) : Dev nD := match d with
  | 0 => ⟨(c.val + 1) % 8, Nat.mod_lt _ (by decide)⟩
  | 1 => ⟨(c.val + 7) % 8, Nat.mod_lt _ (by decide)⟩
/-- The device `n` places behind `c` in direction `d`: the one whose block reaches `c` after `n` hops. -/
def org (d : Fin 2) (n : ℕ) (c : Dev nD) : Dev nD := match d with
  | 0 => ⟨(c.val + 7 * n) % 8, Nat.mod_lt _ (by decide)⟩
  | 1 => ⟨(c.val + n) % 8, Nat.mod_lt _ (by decide)⟩

theorem nxt_org (d : Fin 2) (c : Dev nD) : nxt d (org d 1 c) = c := by revert d c; decide
theorem org_nxt (d : Fin 2) (c : Dev nD) : org d 1 (nxt d c) = c := by revert d c; decide
theorem org_succ_nxt (d : Fin 2) (h : Fin 7) (c : Dev nD) : org d (h.val + 1) (nxt d c) = org d h.val c := by
  revert d h c; decide
theorem org_zero (d : Fin 2) (c : Dev nD) : org d 0 c = c := by revert d c; decide
def ringE (d : Fin 2) : Dev nD ≃ Dev nD := ⟨nxt d, org d 1, org_nxt d, nxt_org d⟩

/-! ## Semaphores and memory -/

abbrev barS : Sem sig := barrier0
/-- The protocol's own transfer semaphores by role (0 send, 1 receive), direction and hop. -/
abbrev osem (k : Fin 2 × Fin 2 × Fin 7) : SemLoc sig :=
  .dma ⟨6 + 14 * k.2.1.val + 7 * k.1.val + k.2.2.val, by have := k.1.isLt; have := k.2.1.isLt; have := k.2.2.isLt; show _ < 34; omega⟩
/-- Which of them a transfer semaphore is. -/
def dec (q : ℕ) : Option (Fin 2 × Fin 2 × Fin 7) :=
  if 6 ≤ q then some (⟨(q - 6) / 7 % 2, Nat.mod_lt _ (by decide)⟩, ⟨(q - 6) / 14 % 2, Nat.mod_lt _ (by decide)⟩, ⟨(q - 6) % 7, Nat.mod_lt _ (by decide)⟩) else none

abbrev barCell (c : Dev nD) : GSem nD τ sig := ((c : Thread nD τ), .reg barS)
abbrev xCell (k : Fin 2 × Fin 2 × Fin 7) (c : Dev nD) : GSem nD τ sig := ((c : Thread nD τ), osem k)
abbrev sendCell (d : Fin 2) (h : Fin 7) (c : Dev nD) : GSem nD τ sig := xCell (0, d, h) c
abbrev recvCell (d : Fin 2) (h : Fin 7) (c : Dev nD) : GSem nD τ sig := xCell (1, d, h) c

theorem dec_osem (k : Fin 2 × Fin 2 × Fin 7) : ∀ q, osem k = .dma q → dec q.val = some k := by
  intro q hq
  have : (⟨6 + 14 * k.2.1.val + 7 * k.1.val + k.2.2.val, by have := k.1.isLt; have := k.2.1.isLt; have := k.2.2.isLt; show _ < 34; omega⟩ : DmaSem sig) = q := by
    unfold osem at hq; injection hq
  subst this
  revert k; decide

theorem osem_inj : Function.Injective osem := by decide
theorem osem_ne_bar (k : Fin 2 × Fin 2 × Fin 7) : osem k ≠ .reg barS := fun h => by unfold osem at h; cases h

/-- The landing buffer of direction `d`, its slot `h`, and the staged own block. -/
def commM : (d : Fin 2) → Memref sig .tc .vmem S7x1024x1024 .bf16
  | 0 => Memref.whole cc0_scratch0
  | 1 => Memref.whole cc0_scratch1
theorem inb_slot (h : Fin 7) : ∀ a, (![h.val, 0, 0] : Fin 3 → Nat) a + S1x1024x1024.size a ≤ S7x1024x1024.size a := by
  revert h; decide
abbrev slotR (h : Fin 7) : Rect S7x1024x1024 := Rect.unit (s := S7x1024x1024) ![h.val, 0, 0] S1x1024x1024.size (inb_slot h)
def slotM (d : Fin 2) (h : Fin 7) : Memref sig .tc .vmem S1024x1024 .bf16 :=
  ((commM d).slice (slotR h) (fun _ => rfl)).squeeze S1024x1024 squeezes_S1x1024x1024_S1024x1024
def stgM : (d : Fin 2) → Memref sig .tc .vmem S1024x1024 .bf16
  | 0 => Memref.whole cc0_stg3_0
  | 1 => Memref.whole cc0_stg4_0
/-- What direction `d` holds after `n` hops: the own block, then the slots. -/
def wM (d : Fin 2) : (n : ℕ) → Memref sig .tc .vmem S1024x1024 .bf16
  | 0 => stgM d
  | n + 1 => slotM d ⟨n % 7, Nat.mod_lt _ (by decide)⟩
theorem wM_succ (d : Fin 2) (h : Fin 7) : wM d (h.val + 1) = slotM d h := by
  show slotM d ⟨h.val % 7, _⟩ = _
  congr 1; exact Fin.ext (Nat.mod_eq_of_lt h.isLt)

/-- The units one block's landing counts. -/
abbrev N : ℕ := (slotM 0 0).view.dmaCredit
theorem N_pos : 0 < N := View.dmaCredit_pos _ (by decide)
theorem N_slot (d : Fin 2) (h : Fin 7) : (slotM d h).view.dmaCredit = N := by
  fin_cases d <;> rfl

theorem amount_slot (d : Fin 2) (h : Fin 7) (q : DmaSem sig) : (slotM d h).view.amount (.dma q) = N := N_slot d h

/-! ## The schedule -/

/-- Duty `d` of a device's barrier: the landing buffer of direction `d` of the device it sends to, slot by slot, and that
    each of the receive cells there has its only round reached. -/
def barPay (d : Fin 2) (c : Dev nD) : sProp 𝕄 :=
  bigSep (Finset.univ : Finset (Fin 7)) fun h => iprop((∃ Y, owns (nxt d c : Thread nD τ) (slotM d h) fullShare Y) ∗ reached ER (recvCell d h (nxt d c)) 0)
variable (X : Fin 2 → Dev nD → (S1024x1024.Idx → Elt F .bf16))

/-- A send cell's duty: the half of the source that was lent. -/
def sendPay (d : Fin 2) (h : Fin 7) (c : Dev nD) : sProp 𝕄 :=
  owns (c : Thread nD τ) (wM d h.val) fullShare.left (X d (org d h.val c))
/-- A receive cell's duty: the slot, at the block that started `h + 1` devices behind. -/
def recvPay (d : Fin 2) (h : Fin 7) (c : Dev nD) : sProp 𝕄 :=
  owns (c : Thread nD τ) (slotM d h) fullShare (X d (org d (h.val + 1) c))

def xPay (k : Fin 2 × Fin 2 × Fin 7) (c : Dev nD) : sProp 𝕄 :=
  if k.1 = 0 then sendPay X k.2.1 k.2.2 c else recvPay X k.2.1 k.2.2 c

def semDuties : SemLoc sig → Finset (Fin 2)
  | .reg _ => Finset.univ
  | .dma q => if (dec q.val).isSome then {0} else ∅
def semAmount : SemLoc sig → ℕ
  | .reg _ => 1
  | .dma _ => N
def semPay (c : Dev nD) (d : Fin 2) : SemLoc sig → sProp 𝕄
  | .reg _ => barPay d c
  | .dma q => match dec q.val with
    | some k => xPay X k c
    | none => iprop(emp)

/-- One round on every cell: two unit duties on a barrier, one duty of a whole block on a transfer cell. -/
def Rd : Rounds.Schedule (GSem nD τ sig) (Fin 2) 𝕄 where
  duties g r := if r = 0 ∧ g.1.2 = .tc then semDuties g.2 else ∅
  unitless _ := False
  amount g _ _ := semAmount g.2
  payload g _ d := semPay X g.1.1 d g.2
  amount_pos g _ _ _ := by
    rcases g with ⟨t, s⟩
    cases s with
    | reg _ => exact Nat.one_pos
    | dma _ => exact N_pos

instance Rd_payload_storable (g : GSem nD τ sig) (r : ℕ) (d : Fin 2) :
    BI.Storable (upEmb : UEmb _ 𝕄) ((Rd X).payload g r d) := by
  show BI.Storable upEmb (semPay X g.1.1 d g.2)
  rcases g.2 with s | q
  · show BI.Storable upEmb (barPay d g.1.1)
    unfold barPay; infer_instance
  · show BI.Storable upEmb (match dec q.val with | some k => xPay X k g.1.1 | none => iprop(emp))
    cases dec q.val with
    | none => show BI.Storable upEmb iprop(emp); infer_instance
    | some k =>
      show BI.Storable upEmb (xPay X k g.1.1)
      unfold xPay sendPay recvPay
      split <;> infer_instance

section Sched

variable (c : Dev nD) (k : Fin 2 × Fin 2 × Fin 7)

theorem dec_sem : dec (6 + 14 * k.2.1.val + 7 * k.1.val + k.2.2.val) = some k := by revert k; decide

theorem duties_bar : (Rd X).duties (barCell c) 0 = Finset.univ := by dsimp only [Rd]; exact if_pos ⟨rfl, rfl⟩
theorem duties_x : (Rd X).duties (xCell k c) 0 = {0} := by
  dsimp only [Rd]; rw [if_pos ⟨rfl, rfl⟩]
  show (if (dec (6 + 14 * k.2.1.val + 7 * k.1.val + k.2.2.val)).isSome then ({0} : Finset (Fin 2)) else ∅) = _
  rw [dec_sem]; rfl
theorem duties_later (g : GSem nD τ sig) : ∀ r, 1 ≤ r → (Rd X).duties g r = ∅ :=
  fun r hr => by dsimp only [Rd]; exact if_neg (fun h => by omega)
theorem amount_bar (d : Fin 2) : (Rd X).amount (barCell c) 0 d = 1 := rfl
theorem amount_x (d : Fin 2) : (Rd X).amount (xCell k c) 0 d = N := rfl
theorem expect_bar : (Rd X).expect (barCell c) 0 = 2 := by
  unfold Schedule.expect Schedule.amountOf; rw [duties_bar, Fin.sum_univ_two, amount_bar, amount_bar]
theorem expect_x : (Rd X).expect (xCell k c) 0 = N := by
  unfold Schedule.expect Schedule.amountOf; rw [duties_x, Finset.sum_singleton, amount_x]
theorem payload_bar (d : Fin 2) : (Rd X).payload (barCell c) 0 d = barPay d c := rfl
theorem payload_x (d : Fin 2) : (Rd X).payload (xCell k c) 0 d = xPay X k c := by
  show (match dec (6 + 14 * k.2.1.val + 7 * k.1.val + k.2.2.val) with | some k => xPay X k c | none => iprop(emp)) = _
  rw [dec_sem]
theorem rest_bar : bigSep ((Rd X).duties (barCell c) 0 \ ∅) (fun u => (Rd X).payload (barCell c) 0 u) = iprop(barPay 0 c ∗ barPay 1 c) := by
  rw [Finset.sdiff_empty, duties_bar, show (Finset.univ : Finset (Fin 2)) = insert 0 {1} from rfl, bigSep_insert (by decide), bigSep_singleton]; rfl
theorem rest_x : bigSep ((Rd X).duties (xCell k c) 0 \ ∅) (fun u => (Rd X).payload (xCell k c) 0 u) = xPay X k c := by
  rw [Finset.sdiff_empty, duties_x, bigSep_singleton, payload_x]
end Sched

/-! ## What each device owes, and the levels -/

/-- The direction and hop of the `s`-th copy a device issues. -/
def stepD (s : ℕ) : Fin 2 := ⟨s % 2, Nat.mod_lt _ (by decide)⟩
def stepH (s : ℕ) : Fin 7 := ⟨s / 2 % 7, Nat.mod_lt _ (by decide)⟩

/-- What device `c` owes before its last `k` copies: a block at each of the receive cells they land on. -/
def owed (c : Dev nD) : ℕ → CellTallies nD τ sig Unit
  | 0 => 0
  | k + 1 => owed c k + tallyAt (recvCell (stepD (13 - k)) (stepH (13 - k)) (nxt (stepD (13 - k)) c)) () N

/-- At launch: all fourteen copies, and a unit to each neighbour's barrier. -/
def O₀ (c : Dev nD) : CellTallies nD τ sig Unit :=
  owed c 14 + tallyAt (barCell (org 1 1 c)) () 1 + tallyAt (barCell (org 0 1 c)) () 1

def L (g : GSem nD τ sig) : Finset Unit := if g.1.2 = .tc then {()} else ∅
def semLv : SemLoc sig → ℕ
  | .reg _ => 1
  | .dma q => match dec q.val with
    | some k => if k.1 = 1 then 2 + k.2.2.val else 0
    | none => 0
/-- Barriers at 1, the receive cells of hop `h` at `2 + h`, the rest at 0. -/
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (d : Fin 2) (h : Fin 7) (c : Dev nD) : lv (recvCell d h c) () = 2 + h.val := by
  have h' : dec (6 + 14 * d.val + 7 * (1 : Fin 2).val + h.val) = some (1, d, h) := dec_sem (1, d, h)
  show (match dec (6 + 14 * d.val + 7 * (1 : Fin 2).val + h.val) with | some k => if k.1 = 1 then 2 + k.2.2.val else 0 | none => 0) = _
  rw [h']; rfl

theorem owed_spec (c : Dev nD) : ∀ k, k ≤ 14 → ∀ g u, 0 < owed c k g u →
    ∃ d h, g = recvCell d h (nxt d c) ∧ 14 - k ≤ 2 * h.val + 1 := by
  intro k
  induction k with
  | zero => intro _ g u hg; exact absurd hg (by simp [owed])
  | succ k ih =>
    intro hk g u hg
    rw [owed, Pi.add_apply, Finsupp.add_apply, tallyAt_apply] at hg
    by_cases h : g = recvCell (stepD (13 - k)) (stepH (13 - k)) (nxt (stepD (13 - k)) c) ∧ u = ()
    · refine ⟨_, _, h.1, ?_⟩
      show _ ≤ 2 * ((13 - k) / 2 % 7) + 1
      omega
    · rw [if_neg h, Nat.add_zero] at hg
      obtain ⟨d, h', e, hl⟩ := ih (by omega) g u hg
      exact ⟨d, h', e, by omega⟩

/-- A wait at a level below the hops of all copies still to issue is allowed. -/
theorem mayWait_of (c : Dev nD) (sm : SemLoc sig) (k n : ℕ) (hk : k ≤ 14) (hs : semLv sm ≤ n)
    (hn : ∀ h : Fin 7, 14 - k ≤ 2 * h.val + 1 → n < 2 + h.val) :
    (levAts L lv : sProp 𝕄) ⊢ MayWait (c : Thread nD τ) sm () (owed c k) :=
  MayOwe.of_cut (L := L) (lev := lv) n (fun p hp => by rw [Finset.mem_singleton.mp hp, L_tc]; exact Finset.mem_singleton_self _)
    (fun g u hg => by
      obtain ⟨d, h, e, _⟩ := owed_spec c k hk g u hg
      rw [e, L_tc]; exact Finset.mem_singleton_self _)
    (fun p hp => by rw [Finset.mem_singleton.mp hp]; exact hs)
    (fun g u hg => by
      obtain ⟨d, h, e, hl⟩ := owed_spec c k hk g u hg
      rw [e, lv_recv]; exact hn h hl)

end Cert.KernelIdeal.Hop

end
-- ==== Proof.Steps.lean ====
/-
  One lemma per kind of step of the kernel's body: a copy to the neighbour, a wait for a landing, a wait for a copy's own
  completion, and the loads and stores. Each takes what the step needs and gives back what it leaves.
-/
module

public import proofs.«01_k».proof.Proof.Protocol

@[expose] public section

set_option maxRecDepth 16384

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

variable (X : Fin 2 → Dev nD → (S1024x1024.Idx → Elt F .bf16)) (K : GSem nD τ sig → ℕ)

/-- What device `c` owes, whatever it has waited for. -/
def owesAny (c : Dev nD) (O : CellTallies nD τ sig Unit) : sProp 𝕄 := iprop(∃ W, owes (c : Thread nD τ) O W)

/-- For the copy of direction `d` at hop `h`: the two cells, the position on the own one, and the two duties. -/
def sendKit (d : Fin 2) (h : Fin 7) (c : Dev nD) : sProp 𝕄 :=
  iprop(cellInv ER (Rd X) (K (sendCell d h c)) (sendCell d h c) ∗ cellInv ER (Rd X) (K (recvCell d h (nxt d c))) (recvCell d h (nxt d c))
    ∗ atPos ER (sendCell d h c) 0 ∅ 0 ∗ reached ER (sendCell d h c) 0
    ∗ dutyTok ER (sendCell d h c) 0 0 ∗ dutyTok ER (recvCell d h (nxt d c)) 0 0)
/-- Where it lands. -/
def dest (d : Fin 2) (h : Fin 7) (c : Dev nD) : sProp 𝕄 :=
  iprop((∃ Y, owns (nxt d c : Thread nD τ) (slotM d h) fullShare Y) ∗ reached ER (recvCell d h (nxt d c)) 0)
/-- After the copy: what waiting for its completion takes. -/
def sentKit (d : Fin 2) (h : Fin 7) (c : Dev nD) : sProp 𝕄 :=
  iprop(cellInv ER (Rd X) (K (sendCell d h c)) (sendCell d h c) ∗ atPos ER (sendCell d h c) 0 ∅ 0 ∗ cred (tallyAt (sendCell d h c) () N))
/-- What waiting for a landing takes. -/
def recvKit (d : Fin 2) (h : Fin 7) (c : Dev nD) : sProp 𝕄 :=
  iprop(cellInv ER (Rd X) (K (recvCell d h c)) (recvCell d h c) ∗ atPos ER (recvCell d h c) 0 ∅ 0 ∗ cred (tallyAt (recvCell d h c) () N))

theorem barPay_eq (d : Fin 2) (c : Dev nD) : (barPay d c : sProp 𝕄) = bigSep Finset.univ fun h => dest d h c := rfl

theorem close (κ : ℕ) (g : GSem nD τ sig) :
    iprop(cellInv ER (Rd X) κ g ∗ atPos ER g (0 + 1) ∅ 0) ⊢ (|={Set.univ}=> semVal g 0 : sProp 𝕄) :=
  Rounds.cell_close ER (Rd X) (Set.mem_univ κ) id (duties_later X g)

section Ghost

/-- The copy to the neighbour. Half of the source is lent to it. -/
theorem step_send (c n : Dev nD) (d : Fin 2) (h : Fin 7) (i k k' : ℕ) (hi : h.val = i) (hkk : k' = k + 1) {src dst : Memref sig .tc .vmem S1024x1024 .bf16} {sS sR : DmaSem sig}
    (hn : n = nxt d c) (hsrc : src = wM d i) (hdst : dst = slotM d h) (hS : (.dma sS : SemLoc sig) = osem (0, d, h))
    (hR : (.dma sR : SemLoc sig) = osem (1, d, h)) (hk : stepD (13 - k) = d) (hk' : stepH (13 - k) = h)
    {hsc : (dst : Memref sig (Dev.tc n : Thread nD τ).2.kind .vmem S1024x1024 .bf16).view.ref.isScScratch = false}
    {hws : src.view.WordExact} {hwd : dst.view.WordExact}
    {hsem : DmaTarget.Typed .vmem (.dma sR) (.remote (Dev.tc n : Thread nD τ) (dst : Memref sig .tc .vmem S1024x1024 .bf16) (.dma sS) hsc)}
    {α : Type} {Q : α → sProp 𝕄} {kont : PUnit → Prog (TpuEff nD τ sig (Elt F) Λ₀ .tc) α} :
    iprop(sendKit X K d h c ∗ dest d h c ∗ owns (c : Thread nD τ) (wM d i) fullShare (X d (org d i c)) ∗ owesAny c (owed c k'))
      ⊢ iprop(((sentKit X K d h c ∗ owns (c : Thread nD τ) (wM d i) fullShare.right (X d (org d i c)) ∗ owesAny c (owed c k))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc n : Thread nD τ) dst (.dma sS) hsc) (.dma sR) hws hwd hsem) kont) Q) := by
  subst hn hsrc hdst hi hkk
  obtain rfl : sS = ⟨6 + 14 * d.val + 7 * (0 : Fin 2).val + h.val, _⟩ := by injection hS
  obtain rfl : sR = ⟨6 + 14 * d.val + 7 * (1 : Fin 2).val + h.val, _⟩ := by injection hR
  unfold sendKit dest sentKit owesAny
  iintro ⟨⟨#HIs, #HIr, Hat, #HrS, HtS, HtR⟩, ⟨⟨%Y, Hdst⟩, #HrR⟩, Hsrc, ⟨%W, HO⟩⟩ Hk
  ihave Hh := (owns_halves (c : Thread nD τ) (wM d h.val) fullShare (X d (org d h.val c))).1 $$ Hsrc
  icases Hh with ⟨Hl, Hr⟩
  unfold owns
  icases Hl with ⟨%fs, %hfs, Hl⟩
  icases Hdst with ⟨%fd, %hfd, Hdst⟩
  iapply (Rounds.wp_send_pointsTo 𝒱₀ ER (Rd X) (c : Thread nD τ) none (κ₁ := K (sendCell d h c)) (κ₂ := K (recvCell d h (nxt d c)))
    (c' := (nxt d c : Thread nD τ)) (src := wM d h.val) (dst := slotM d h) (q := fullShare.left) (fs := fs)
    (r₁ := 0) (r₂ := 0) (d₁ := 0) (d₂ := 0) (fd := fd)
    (by show (0 : Fin 2) ∈ (Rd X).duties (sendCell d h c) 0; rw [duties_x]; exact Finset.mem_singleton_self _)
    (by show (0 : Fin 2) ∈ (Rd X).duties (recvCell d h (nxt d c)) 0; rw [duties_x]; exact Finset.mem_singleton_self _)
    () () N (amount_slot d h _) (amount_x X c (0, d, h) 0) (amount_x X (nxt d c) (1, d, h) 0) (owed c k)
    (by show owed c (k + 1) = _; rw [owed, hk, hk']) (W := W)
    (by
      show _ ⊢ (Rd X).payload (sendCell d h c) 0 0
      rw [payload_x]; show _ ⊢ sendPay X d h c; unfold sendPay; rw [← hfs]; exact owns_intro _ _ _ _)
    (by
      show _ ⊢ (Rd X).payload (recvCell d h (nxt d c)) 0 0
      rw [payload_x]; show _ ⊢ recvPay X d h (nxt d c); unfold recvPay
      rw [org_succ_nxt, ← hfs]
      refine (owns_intro _ _ _ _).trans (Entails.of_eq ?_)
      rw [View.read_write_univ])) $$ [HO HtS HtR Hl Hdst]
  · isplitr; · iexact HIs
    isplitr; · iexact HIr
    isplitl [Hl]; · iexact Hl
    isplitl [Hdst]; · iexact Hdst
    isplitl [HO]; · iexact HO
    isplitl [HtS]; · iexact HtS
    isplitr; · iexact HrS
    isplitl [HtR]; · iexact HtR
    iexact HrR
  iintro ⟨Hc, HO⟩
  iapply Hk
  isplitl [Hat Hc]
  · isplitr; · iexact HIs
    isplitl [Hat]; · iexact Hat
    iexact Hc
  isplitl [Hr]
  · iexact Hr
  iexists W; iexact HO

/-- The wait for the landing of direction `d` at hop `h`: the slot, at its block; the cell is closed. -/
theorem step_recv (c : Dev nD) (d : Fin 2) (h : Fin 7) (i k : ℕ) (hi : i = h.val + 1) {sp : Space} {s' : Shape} {e' : EltTy} {src : Memref sig .tc sp s' e'} {dst : Memref sig .tc .vmem S1024x1024 .bf16} {sR : DmaSem sig}
    (hdst : dst = slotM d h) (hR : (.dma sR : SemLoc sig) = osem (1, d, h)) (hk : k ≤ 14) (hk' : 2 * (h.val + 1) ≤ 14 - k)
    {hws : src.view.WordExact} {hwd : dst.view.WordExact}
    {α : Type} {Q : α → sProp 𝕄} {kont : PUnit → Prog (TpuEff nD τ sig (Elt F) Λ₀ .tc) α} :
    iprop(recvKit X K d h c ∗ levAts L lv ∗ owesAny c (owed c k))
      ⊢ iprop(((semVal (recvCell d h c) 0 ∗ owns (c : Thread nD τ) (wM d i) fullShare (X d (org d i c)) ∗ owesAny c (owed c k))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sR src dst hws hwd) kont) Q) := by
  subst hi
  subst hdst
  obtain rfl : sR = ⟨6 + 14 * d.val + 7 * (1 : Fin 2).val + h.val, _⟩ := by injection hR
  unfold recvKit owesAny
  iintro ⟨⟨#HI, Hat, Hc⟩, #Hlev, ⟨%W, HO⟩⟩ Hk
  iapply (Rounds.wp_wait_rest_token 𝒱₀ ER (Rd X) (c : Thread nD τ) none (κ := K (recvCell d h c))
      (wpE_waitDma2_eq 𝒱₀ (c : Thread nD τ) none Set.univ) (Set.mem_univ _) () (O := owed c k) (W := W) (R := 0) (m := 0) (T := ∅)
      (by rw [N_slot, Nat.zero_add]; exact (expect_x X c (1, d, h)).symm)) $$ [Hc HO Hat]
  · isplitr; · iexact HI
    isplitl [Hc]; · rw [N_slot]; iexact Hc
    isplitl [HO]; · iexact HO
    isplitr
    · iapply (mayWait_of c (osem (1, d, h)) k (2 + h.val) hk (le_of_eq (lv_recv d h c)) (fun h' hh => by omega)); iexact Hlev
    iexact Hat
  iintro ⟨HO, Hat, -, Hpay⟩
  ihave Hp := (Entails.of_eq (rest_x X c (1, d, h))) $$ Hpay
  imod (close X (K (recvCell d h c)) (recvCell d h c)) $$ [Hat] with Hv
  · isplitr; · iexact HI
    iexact Hat
  iapply Hk
  isplitl [Hv]; · iexact Hv
  isplitl [Hp]
  · ihave Hp' := (show (xPay X (1, d, h) c : sProp 𝕄) ⊢ recvPay X d h c from .rfl) $$ Hp
    rw [wM_succ]; unfold recvPay; iexact Hp'
  iexists _; iexact HO

/-- The wait for a copy's own completion: the lent half of the source; the cell is closed. -/
theorem step_done (c : Dev nD) (d : Fin 2) (h : Fin 7) (i : ℕ) (hi : h.val = i) {sp : Space} {s' : Shape} {e' : EltTy} {src : Memref sig .tc sp s' e'} {dst : Memref sig .tc .vmem S1024x1024 .bf16} {sS : DmaSem sig}
    (hN : dst.view.dmaCredit = N) (hS : (.dma sS : SemLoc sig) = osem (0, d, h))
    {hws : src.view.WordExact} {hwd : dst.view.WordExact}
    {α : Type} {Q : α → sProp 𝕄} {kont : PUnit → Prog (TpuEff nD τ sig (Elt F) Λ₀ .tc) α} :
    iprop(sentKit X K d h c ∗ owns (c : Thread nD τ) (wM d i) fullShare.right (X d (org d i c)) ∗ owesAny c 0)
      ⊢ iprop(((semVal (sendCell d h c) 0 ∗ owns (c : Thread nD τ) (wM d i) fullShare (X d (org d i c)) ∗ owesAny c 0)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sS src dst hws hwd) kont) Q) := by
  subst hi
  obtain rfl : sS = ⟨6 + 14 * d.val + 7 * (0 : Fin 2).val + h.val, _⟩ := by injection hS
  unfold sentKit owesAny
  iintro ⟨⟨#HI, Hat, Hc⟩, Hr, ⟨%W, HO⟩⟩ Hk
  iapply (Rounds.wp_wait_rest_token 𝒱₀ ER (Rd X) (c : Thread nD τ) none (κ := K (sendCell d h c))
      (wpE_waitDma2_eq 𝒱₀ (c : Thread nD τ) none Set.univ) (Set.mem_univ _) () (O := 0) (W := W) (R := 0) (m := 0) (T := ∅)
      (by rw [hN, Nat.zero_add]; exact (expect_x X c (0, d, h)).symm)) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_x X c (0, d, h))) $$ Hpay
  imod (close X (K (sendCell d h c)) (sendCell d h c)) $$ [Hat] with Hv
  · isplitr; · iexact HI
    iexact Hat
  iapply Hk
  isplitl [Hv]; · iexact Hv
  isplitl [Hp Hr]
  · iapply (owns_halves (c : Thread nD τ) (wM d h.val) fullShare (X d (org d h.val c))).2
    isplitl [Hp]
    · ihave Hp' := (show (xPay X (0, d, h) c : sProp 𝕄) ⊢ sendPay X d h c from .rfl) $$ Hp
      unfold sendPay; iexact Hp'
    iexact Hr
  iexists _; iexact HO

end Ghost

section Mem

variable {c : Dev nD} {sh : Shape} {e : EltTy} {m : Memref sig .tc .vmem sh e} {q : PosShare TreeShare} {Y : sh.Idx → Elt F e}

/-- A load through a rectangle of an owned memref. -/
theorem step_load {α : Type} {Q : α → sProp 𝕄} {r : LoadRect sh} {hl : m.view.LoadsAt r} {kont : (r.shape.Idx → Elt F e) → Prog (TpuEff nD τ sig (Elt F) Λ₀ .tc) α} :
    (owns (c : Thread nD τ) m q Y : sProp 𝕄)
      ⊢ iprop((owns (c : Thread nD τ) m q Y -∗ wp frame (wpE (defs₀ (F := F)) 𝒱₀ (c : Thread nD τ) none) Set.univ (kont fun i => Y (r.idx i)) Q)
          -∗ wp frame (wpE (defs₀ (F := F)) 𝒱₀ (c : Thread nD τ) none) Set.univ (.op (.load m r hl) kont) Q) := by
  unfold owns
  iintro ⟨%f, %hf, H⟩ Hk
  iapply (wp_load 𝒱₀ (c : Thread nD τ) none Set.univ (m := m) (r := r) (f := f) (q := q) (S := m.view.set) (View.setOn_subset_set _ _)) $$ H
  iintro H
  rw [show m.view.readAt (Elt F) r f = fun i => Y (r.idx i) from by rw [← hf]; rfl]
  iapply Hk
  iexists f
  isplitr; · ipureintro; exact hf
  iexact H

theorem off_zero {o : Fin sh.rank → ℕ} (inb : ∀ a, o a + sh.size a ≤ sh.size a) : o = fun _ => 0 :=
  funext fun a => by have := inb a; omega

/-- A load of the whole memref. -/
theorem step_loadAll {α : Type} {Q : α → sProp 𝕄} {o : Fin sh.rank → ℕ} {inb : ∀ a, o a + sh.size a ≤ sh.size a} {hl : m.view.LoadsAt (Rect.unit (s := sh) o sh.size inb).toLoadRect}
    {kont : (sh.Idx → Elt F e) → Prog (TpuEff nD τ sig (Elt F) Λ₀ .tc) α} :
    (owns (c : Thread nD τ) m q Y : sProp 𝕄)
      ⊢ iprop((owns (c : Thread nD τ) m q Y -∗ wp frame (wpE (defs₀ (F := F)) 𝒱₀ (c : Thread nD τ) none) Set.univ (kont Y) Q)
          -∗ wp frame (wpE (defs₀ (F := F)) 𝒱₀ (c : Thread nD τ) none) Set.univ (.op (.load m (Rect.unit (s := sh) o sh.size inb).toLoadRect hl) kont) Q) := by
  have h : (fun i : (Rect.unit (s := sh) o sh.size inb).toLoadRect.shape.Idx => Y ((Rect.unit (s := sh) o sh.size inb).toLoadRect.idx i)) = Y := by
    funext i
    congr 1
    funext a
    apply Fin.ext
    show o a + 1 * (i a).val = (i a).val
    have := inb a; omega
  have h1 := step_load (c := c) (m := m) (q := q) (Y := Y) (Q := Q) (hl := hl) (kont := kont)
  rwa [h] at h1

/-- A load of a whole weight block. -/
theorem step_loadW {c : Dev nD} (d : Fin 2) (n : ℕ) {α : Type} {Q : α → sProp 𝕄} {m : Memref sig .tc .vmem S1024x1024 .bf16} {q : PosShare TreeShare} {Y : S1024x1024.Idx → Elt F .bf16} (hm : m = wM d n)
    {o : Fin S1024x1024.rank → ℕ} {inb : ∀ a, o a + S1024x1024.size a ≤ S1024x1024.size a} {hl : m.view.LoadsAt (Rect.unit (s := S1024x1024) o S1024x1024.size inb).toLoadRect}
    {kont : (S1024x1024.Idx → Elt F .bf16) → Prog (TpuEff nD τ sig (Elt F) Λ₀ .tc) α} :
    (owns (c : Thread nD τ) (wM d n) q Y : sProp 𝕄)
      ⊢ iprop((owns (c : Thread nD τ) (wM d n) q Y -∗ wp frame (wpE (defs₀ (F := F)) 𝒱₀ (c : Thread nD τ) none) Set.univ (kont Y) Q)
          -∗ wp frame (wpE (defs₀ (F := F)) 𝒱₀ (c : Thread nD τ) none) Set.univ (.op (.load m (Rect.unit (s := S1024x1024) o S1024x1024.size inb).toLoadRect hl) kont) Q) := by
  subst hm; exact step_loadAll

/-- A store of the whole memref. -/
theorem step_storeAll {α : Type} {Q : α → sProp 𝕄} {o : Fin sh.rank → ℕ} {inb : ∀ a, o a + sh.size a ≤ sh.size a} {w : sh.Idx → Elt F e}
    {hx : (m.access (Rect.unit (s := sh) o sh.size inb)).Stores Finset.univ} {hm : (Finset.univ : Finset sh.Idx) = Finset.univ ∨ ∀ a, (Rect.unit (s := sh) o sh.size inb).stride a = 1}
    {kont : PUnit → Prog (TpuEff nD τ sig (Elt F) Λ₀ .tc) α} :
    (owns (c : Thread nD τ) m fullShare Y : sProp 𝕄)
      ⊢ iprop((owns (c : Thread nD τ) m fullShare w -∗ wp frame (wpE (defs₀ (F := F)) 𝒱₀ (c : Thread nD τ) none) Set.univ (kont ⟨⟩) Q)
          -∗ wp frame (wpE (defs₀ (F := F)) 𝒱₀ (c : Thread nD τ) none) Set.univ (.op (.store m (Rect.unit (s := sh) o sh.size inb) w Finset.univ hx hm) kont) Q) := by
  unfold owns
  iintro ⟨%f, %hf, H⟩ Hk
  iapply (wp_store_writes₀ 𝒱₀ (c : Thread nD τ) none Set.univ (m := m) (r := Rect.unit (s := sh) o sh.size inb) (w := w) (f := f) (hx := hx) (hm := hm) (S := m.view.set)
    (View.set_slice_subset _ _)) $$ H
  iintro H
  iapply Hk
  iexists _
  isplitr
  · ipureintro
    funext y
    have he : (Rect.unit (s := sh) o sh.size inb).emb y = y := by
      funext a
      apply Fin.ext
      show o a + 1 * (y a).val = (y a).val
      have := inb a; omega
    have h1 := View.read_writes_cons_emb (v := m.view) (f := f) (Rect.unit (s := sh) o sh.size inb) w [] y
    rwa [he] at h1
  iexact H

end Mem

/-- The columns of a half. -/
def colL (y : S2048x1024.Idx) (h : (y 1).val < 512) : S2048x512.Idx := fun a => match a with
  | ⟨0, _⟩ => (⟨(y 0).val, (y 0).isLt⟩ : Fin 2048)
  | ⟨1, _⟩ => (⟨(y 1).val, h⟩ : Fin 512)
def colR (y : S2048x1024.Idx) : S2048x512.Idx := fun a => match a with
  | ⟨0, _⟩ => (⟨(y 0).val, (y 0).isLt⟩ : Fin 2048)
  | ⟨1, _⟩ => (⟨(y 1).val - 512, by have : (y 1).val < 1024 := (y 1).isLt; omega⟩ : Fin 512)
/-- Two halves side by side. -/
def cat (p q : FVec F S2048x512 .bf16) : FVec F S2048x1024 .bf16 := fun y => if h : (y 1).val < 512 then p (colL y h) else q (colR y)

theorem read_cat (m : Memref sig .tc .vmem S2048x1024 .bf16) (f : m.view.ty.Contents (Elt F)) (p q : FVec F S2048x512 .bf16)
    {i1 : ∀ a, (![0, 0] : Fin 2 → ℕ) a + S2048x512.size a ≤ S2048x1024.size a} {i2 : ∀ a, (![0, 512] : Fin 2 → ℕ) a + S2048x512.size a ≤ S2048x1024.size a} :
    m.view.read (Elt F) (m.view.writes (Elt F) f [⟨Rect.unit (s := S2048x1024) ![0, 512] S2048x512.size i2, q⟩, ⟨Rect.unit (s := S2048x1024) ![0, 0] S2048x512.size i1, p⟩]) = cat p q := by
  funext y
  refine View.read_writes_apply_of_pieces (v := m.view) (f := f) (cat p q) _ ?_ y ?_
  · intro pc hpc x
    simp only [List.mem_cons, List.not_mem_nil, or_false] at hpc
    rcases hpc with rfl | rfl
    · have h0 : (((Rect.unit (s := S2048x1024) ![0, 512] S2048x512.size i2).emb x) 0).val = (x 0).val := by
        show 0 + 1 * (x 0).val = _; omega
      have h1 : (((Rect.unit (s := S2048x1024) ![0, 512] S2048x512.size i2).emb x) 1).val = 512 + (x 1).val := by
        show 512 + 1 * (x 1).val = _; omega
      show q x = cat p q ((Rect.unit (s := S2048x1024) ![0, 512] S2048x512.size i2).emb x)
      unfold cat
      rw [dif_neg (by omega)]
      congr 1
      funext a
      match a with
      | ⟨0, _⟩ => exact Fin.ext h0.symm
      | ⟨1, _⟩ => exact Fin.ext (by show (x 1).val = (((Rect.unit (s := S2048x1024) ![0, 512] S2048x512.size i2).emb x) 1).val - 512; omega)
    · have h0 : (((Rect.unit (s := S2048x1024) ![0, 0] S2048x512.size i1).emb x) 0).val = (x 0).val := by
        show 0 + 1 * (x 0).val = _; omega
      have h1 : (((Rect.unit (s := S2048x1024) ![0, 0] S2048x512.size i1).emb x) 1).val = (x 1).val := by
        show 0 + 1 * (x 1).val = _; omega
      have hx : (x 1).val < 512 := (x 1).isLt
      show p x = cat p q ((Rect.unit (s := S2048x1024) ![0, 0] S2048x512.size i1).emb x)
      unfold cat
      rw [dif_pos (by omega)]
      congr 1
      funext a
      match a with
      | ⟨0, _⟩ => exact Fin.ext h0.symm
      | ⟨1, _⟩ => exact Fin.ext h1.symm
  · have h0 : (y 0).val < 2048 := (y 0).isLt
    have h1 : (y 1).val < 1024 := (y 1).isLt
    by_cases h : (y 1).val < 512
    · refine ⟨_, List.mem_cons_of_mem _ List.mem_cons_self, ?_⟩
      refine Finset.mem_of_subset (le_of_eq (Rect.map_emb_univ _)) (Finset.mem_map.mpr ⟨colL y h, Finset.mem_univ _, ?_⟩)
      funext a
      match a with
      | ⟨0, _⟩ => exact Fin.ext (by show 0 + 1 * (y 0).val = (y 0).val; omega)
      | ⟨1, _⟩ => exact Fin.ext (by show 0 + 1 * (y 1).val = (y 1).val; omega)
    · refine ⟨_, List.mem_cons_self, ?_⟩
      refine Finset.mem_of_subset (le_of_eq (Rect.map_emb_univ _)) (Finset.mem_map.mpr ⟨colR y, Finset.mem_univ _, ?_⟩)
      funext a
      match a with
      | ⟨0, _⟩ => exact Fin.ext (by show 0 + 1 * (y 0).val = (y 0).val; omega)
      | ⟨1, _⟩ => exact Fin.ext (by show 512 + 1 * ((y 1).val - 512) = (y 1).val; omega)

/-- The gated input, written half by half, then read whole: each half's store is preceded by a load whose value is not used. -/
theorem step_gate {c : Dev nD} {m : Memref sig .tc .vmem S2048x1024 .bf16} {α : Type} {Q : α → sProp 𝕄} (p q : FVec F S2048x512 .bf16)
    {i1 i1' : ∀ a, (![0, 0] : Fin 2 → ℕ) a + S2048x512.size a ≤ S2048x1024.size a} {i2 i2' : ∀ a, (![0, 512] : Fin 2 → ℕ) a + S2048x512.size a ≤ S2048x1024.size a}
    {i3 : ∀ a, (![0, 0] : Fin 2 → ℕ) a + S2048x1024.size a ≤ S2048x1024.size a}
    {hl1 : m.view.LoadsAt (Rect.unit (s := S2048x1024) ![0, 0] S2048x512.size i1).toLoadRect}
    {hl2 : m.view.LoadsAt (Rect.unit (s := S2048x1024) ![0, 512] S2048x512.size i2).toLoadRect}
    {hl3 : m.view.LoadsAt (Rect.unit (s := S2048x1024) ![0, 0] S2048x1024.size i3).toLoadRect}
    {hx1 : (m.access (Rect.unit (s := S2048x1024) ![0, 0] S2048x512.size i1')).Stores Finset.univ} {hm1 : (Finset.univ : Finset S2048x512.Idx) = Finset.univ ∨ ∀ a, (Rect.unit (s := S2048x1024) ![0, 0] S2048x512.size i1').stride a = 1}
    {hx2 : (m.access (Rect.unit (s := S2048x1024) ![0, 512] S2048x512.size i2')).Stores Finset.univ} {hm2 : (Finset.univ : Finset S2048x512.Idx) = Finset.univ ∨ ∀ a, (Rect.unit (s := S2048x1024) ![0, 512] S2048x512.size i2').stride a = 1}
    {kont : Vec F S2048x1024 .bf16 → Prog (TpuEff nD τ sig (Elt F) Λ₀ .tc) α} :
    iprop(∃ Y, owns (c : Thread nD τ) m fullShare Y)
      ⊢ iprop(((∃ Y, owns (c : Thread nD τ) m fullShare Y) -∗ wp frame (wpE (defs₀ (F := F)) 𝒱₀ (c : Thread nD τ) none) Set.univ (kont (cat p q)) Q)
          -∗ wp frame (wpE (defs₀ (F := F)) 𝒱₀ (c : Thread nD τ) none) Set.univ
              (.op (.load m (Rect.unit (s := S2048x1024) ![0, 0] S2048x512.size i1).toLoadRect hl1) fun _ =>
                .op (.store m (Rect.unit (s := S2048x1024) ![0, 0] S2048x512.size i1') p Finset.univ hx1 hm1) fun _ =>
                .op (.load m (Rect.unit (s := S2048x1024) ![0, 512] S2048x512.size i2).toLoadRect hl2) fun _ =>
                .op (.store m (Rect.unit (s := S2048x1024) ![0, 512] S2048x512.size i2') q Finset.univ hx2 hm2) fun _ =>
                .op (.load m (Rect.unit (s := S2048x1024) ![0, 0] S2048x1024.size i3).toLoadRect hl3) kont) Q) := by
  iintro ⟨%Y, H⟩ Hk
  iapply (step_load (c := c) (m := m) (q := fullShare) (Y := Y) (Q := Q)) $$ H
  iintro H
  unfold owns
  icases H with ⟨%f, -, H⟩
  iapply (wp_store_writes₀ 𝒱₀ (c : Thread nD τ) none Set.univ (m := m) (r := Rect.unit (s := S2048x1024) ![0, 0] S2048x512.size i1') (w := p) (f := f) (hx := hx1) (hm := hm1) (S := m.view.set)
    (View.set_slice_subset _ _)) $$ H
  iintro H
  iapply (wp_load 𝒱₀ (c : Thread nD τ) none Set.univ (m := m) (q := fullShare) (S := m.view.set) (View.setOn_subset_set _ _)) $$ H
  iintro H
  iapply (wp_store_writes 𝒱₀ (c : Thread nD τ) none Set.univ (m := m) (r := Rect.unit (s := S2048x1024) ![0, 512] S2048x512.size i2') (w := q) (f := f) (hx := hx2) (hm := hm2) (S := m.view.set)
    (View.set_slice_subset _ _)) $$ H
  iintro H
  ihave H2 := (owns_intro (c : Thread nD τ) m fullShare _) $$ H
  rw [read_cat]
  iapply (step_loadAll (c := c) (m := m)) $$ H2
  iintro H2
  iapply Hk
  unfold owns
  iexists _
  iexact H2

end Cert.KernelIdeal.Hop

end
-- ==== Proof.Run.lean ====
/-
  The body of the kernel, run once at a symbolic device and over any float values: the two neighbours' barriers, then
  eight hops. At each hop a device sends the weight block it holds on to the neighbour of each direction, and adds the
  product of its gated rows with that block to its output.
-/
module

public import proofs.«01_k».proof.Proof.Steps

@[expose] public section

set_option maxRecDepth 16384

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Fin 2 → Dev nD → (S1024x1024.Idx → Elt F .bf16)) (K : GSem nD τ sig → ℕ)

/-! ## The values -/

/-- The rows of `x` scaled by the gate of expert number `w`, as one half of the gated input. -/
def gateHalf (x : Vec F S2048x512 .bf16) (rw : Vec F S512x32 .bf16) (a0 a1 : Vec F S2048x1 .i32) (w : BitVec 32) : FVec F S2048x512 .bf16 :=
  shapeCast S2048x512
    (mulf (k0_pay1 x) (broadcastTo S2048x512
      (truncf .bf16
        (addf (select (cmpi .eq (k0_pay2 a0) (broadcast S2048x1 w)) (k0_pay4 x rw a0 a1) (broadcast S2048x1 (Scalar.ofBits .f32 0#32)))
          (select (cmpi .eq (k0_pay3 a1) (broadcast S2048x1 w)) (k0_pay5 x rw a0 a1) (broadcast S2048x1 (Scalar.ofBits .f32 0#32))))
        bitsLt_bf16_f32) broadcasts_S2048x1_S2048x512)) shapeCasts_S2048x512_S2048x512

/-- The gated input for the two experts from number `4 s + o` on. -/
def gated (x : Vec F S2048x512 .bf16) (rw : Vec F S512x32 .bf16) (a0 a1 : Vec F S2048x1 .i32) (s o : BitVec 32) : FVec F S2048x1024 .bf16 :=
  cat (gateHalf x rw a0 a1 (Scalar.addi (Scalar.addi (Scalar.muli s 4#32) o) 0#32))
    (gateHalf x rw a0 a1 (Scalar.addi (Scalar.addi (Scalar.muli s 4#32) o) 1#32))

/-- The device's own number as the kernel computes it. -/
def own (c : Dev nD) : BitVec 32 := Scalar.remsi (Scalar.divsi (Dev.word c) 1#32) 8#32
/-- The number of the device whose block of direction `d` is used at hop `n`. -/
def srcW (d : Fin 2) (c : Dev nD) : ℕ → BitVec 32
  | 0 => own c
  | n + 1 => Scalar.remsi (Scalar.addi (own c) (if d = 0 then BitVec.ofNat 32 (7 - n) else BitVec.ofNat 32 (n + 1))) 8#32

def prod (p : FVec F S2048x1024 .bf16) (q : Vec F S1024x1024 .bf16) : FVec F S2048x1024 .f32 :=
  matmul dot_S2048x1024_S1024x1024_S2048x1024_1_0_0_1_n_n none p q (constant S2048x1024 .f32 0#32)

/-- The output after hop `n`. -/
def outC (c : Dev nD) (x : Vec F S2048x512 .bf16) (rw : Vec F S512x32 .bf16) (a0 a1 : Vec F S2048x1 .i32) : ℕ → FVec F S2048x1024 .bf16
  | 0 => truncf .bf16
      (addf (prod (gated x rw a0 a1 (srcW 0 c 0) 0#32) (shapeCast S1024x1024 (X 0 (org 0 0 c)) shapeCasts_S1024x1024_S1024x1024))
        (prod (gated x rw a0 a1 (srcW 1 c 0) 2#32) (shapeCast S1024x1024 (X 1 (org 1 0 c)) shapeCasts_S1024x1024_S1024x1024))) bitsLt_bf16_f32
  | n + 1 => addf (shapeCast S2048x1024 (outC c x rw a0 a1 n) shapeCasts_S2048x1024_S2048x1024)
      (truncf .bf16
        (addf (prod (gated x rw a0 a1 (srcW 0 c (n + 1)) 0#32) (X 0 (org 0 (n + 1) c)))
          (prod (gated x rw a0 a1 (srcW 1 c (n + 1)) 2#32) (X 1 (org 1 (n + 1) c)))) bitsLt_bf16_f32)

/-- Column `j` of the two expert choices. -/
def pick0 (ri : Vec F S2048x2 .i32) : Vec F S2048x1 .i32 := fun i => ri ((Rect.unit (s := S2048x2) ![0, 0] ![2048, 1] inb_S2048x2_S2048x1_0_0).toLoadRect.idx i)
def pick1 (ri : Vec F S2048x2 .i32) : Vec F S2048x1 .i32 := fun i => ri ((Rect.unit (s := S2048x2) ![0, 1] ![2048, 1] inb_S2048x2_S2048x1_0_1).toLoadRect.idx i)

/-! ## The two barriers -/

def barKit (c : Dev nD) : sProp 𝕄 :=
  iprop(cellInv ER (Rd X) (K (barCell c)) (barCell c) ∗ cellInv ER (Rd X) (K (barCell (org 0 1 c))) (barCell (org 0 1 c))
    ∗ cellInv ER (Rd X) (K (barCell (org 1 1 c))) (barCell (org 1 1 c))
    ∗ atPos ER (barCell c) 0 ∅ 0 ∗ cred (tallyAt (barCell c) () 2) ∗ reached ER (barCell (org 0 1 c)) 0 ∗ reached ER (barCell (org 1 1 c)) 0
    ∗ dutyTok ER (barCell (org 0 1 c)) 0 0 ∗ dutyTok ER (barCell (org 1 1 c)) 0 1)

/-- The slots of direction `d`, with the round of each landing's cell. -/
def slots (d : Fin 2) (c : Dev nD) : sProp 𝕄 :=
  bigSep Finset.univ fun h => iprop((∃ Y, owns (c : Thread nD τ) (slotM d h) fullShare Y) ∗ reached ER (recvCell d h c) 0)

theorem slots_eq (d : Fin 2) (c : Dev nD) : (slots d c : sProp 𝕄) = barPay d (org d 1 c) := by
  unfold slots barPay
  have h : nxt d (org d 1 c) = c := by rw [nxt_org]
  rw [h]

theorem step_bar (c n1 n2 : Dev nD) (hn1 : n1 = org 0 1 c) (hn2 : n2 = org 1 1 c) {α : Type} {Q : α → sProp 𝕄} {kont : PUnit → Prog (TpuEff nD τ sig (Elt F) Λ₀ .tc) α} :
    iprop(barKit X K c ∗ slots 0 c ∗ slots 1 c ∗ levAts L lv ∗ owesAny c (O₀ c))
      ⊢ iprop(((semVal (barCell c) 0 ∗ barPay 0 c ∗ barPay 1 c ∗ owesAny c (owed c 14))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal (n1, .tc) barS (1#32).toInt) fun _ => .op (.semSignal (n2, .tc) barS (1#32).toInt) fun _ =>
                .op (.semWait barS (2#32).toInt) kont) Q) := by
  subst hn1 hn2
  unfold barKit owesAny
  iintro ⟨⟨#HI, #HI0, #HI1, Hat, Hc, #Hr0, #Hr1, Ht0, Ht1⟩, Hs0, Hs1, #Hlev, ⟨%W, HO⟩⟩ Hk
  iapply (Rounds.wp_signal 𝒱₀ ER (Rd X) (c : Thread nD τ) none (dst := (org 0 1 c : Thread nD τ)) (sem := barS) (r := 0) (d := 0) (κ := K (barCell (org 0 1 c)))
      (by show (0 : Fin 2) ∈ (Rd X).duties (barCell (org 0 1 c)) 0; rw [duties_bar]; exact Finset.mem_univ _) ((amount_bar X (org 0 1 c) 0).trans (by decide)) ()
      (owed c 14 + tallyAt (barCell (org 1 1 c)) () 1) rfl (W := W)) $$ [HO Ht0 Hs0]
  · isplitr; · iexact HI0
    isplitl [HO]; · iexact HO
    isplitl [Ht0]; · iexact Ht0
    isplitl [Hs0]
    · iapply (show (slots 0 c : sProp 𝕄) ⊢ (Rd X).payload (barCell (org 0 1 c)) 0 0 from by rw [slots_eq, payload_bar]); iexact Hs0
    iexact Hr0
  iintro HO
  iapply (Rounds.wp_signal 𝒱₀ ER (Rd X) (c : Thread nD τ) none (dst := (org 1 1 c : Thread nD τ)) (sem := barS) (r := 0) (d := 1) (κ := K (barCell (org 1 1 c)))
      (by show (1 : Fin 2) ∈ (Rd X).duties (barCell (org 1 1 c)) 0; rw [duties_bar]; exact Finset.mem_univ _) ((amount_bar X (org 1 1 c) 1).trans (by decide)) ()
      (owed c 14) rfl (W := W)) $$ [HO Ht1 Hs1]
  · isplitr; · iexact HI1
    isplitl [HO]; · iexact HO
    isplitl [Ht1]; · iexact Ht1
    isplitl [Hs1]
    · iapply (show (slots 1 c : sProp 𝕄) ⊢ (Rd X).payload (barCell (org 1 1 c)) 0 1 from by rw [slots_eq, payload_bar]); iexact Hs1
    iexact Hr1
  iintro HO
  iapply (Rounds.wp_wait_rest_token 𝒱₀ ER (Rd X) (c : Thread nD τ) none (κ := K (barCell c))
      (wpE_semWait_eq 𝒱₀ (c : Thread nD τ) none Set.univ) (Set.mem_univ _) () (O := owed c 14) (W := W) (R := 0) (m := 0) (T := ∅)
      (by rw [expect_bar]; decide)) $$ [Hc HO Hat]
  · isplitr; · iexact HI
    isplitl [Hc]; · iexact Hc
    isplitl [HO]; · iexact HO
    isplitr
    · iapply (mayWait_of c (.reg barS) 14 1 (by omega) (le_refl _) (fun h' hh => by omega)); iexact Hlev
    iexact Hat
  iintro ⟨HO, Hat, -, Hpay⟩
  ihave Hp := (Entails.of_eq (rest_bar X c)) $$ Hpay
  icases Hp with ⟨Hp0, Hp1⟩
  imod (close X (K (barCell c)) (barCell c)) $$ [Hat] with Hv
  · isplitr; · iexact HI
    iexact Hat
  iapply Hk
  isplitl [Hv]; · iexact Hv
  isplitl [Hp0]; · iexact Hp0
  isplitl [Hp1]; · iexact Hp1
  iexists _; iexact HO

theorem bigSep7 (P : Fin 7 → sProp 𝕄) : bigSep Finset.univ P = iprop(P 0 ∗ P 1 ∗ P 2 ∗ P 3 ∗ P 4 ∗ P 5 ∗ P 6) := by
  rw [show (Finset.univ : Finset (Fin 7)) = insert 0 (insert 1 (insert 2 (insert 3 (insert 4 (insert 5 {6}))))) from by decide,
    bigSep_insert (by decide), bigSep_insert (by decide), bigSep_insert (by decide), bigSep_insert (by decide), bigSep_insert (by decide),
    bigSep_insert (by decide), bigSep_singleton]
  rfl

/-! ## The body -/

theorem dev1_eq (c : Dev nD) : (⟨k0_dev1 c, k0_dev1_lt c⟩ : Dev nD) = org 0 1 c := by revert c; decide

theorem dev2_eq (c : Dev nD) : (⟨k0_dev2 c, k0_dev2_lt c⟩ : Dev nD) = org 1 1 c := by revert c; decide

theorem dev3_eq (c : Dev nD) : (⟨k0_dev3 c, k0_dev3_lt c⟩ : Dev nD) = nxt 0 c := by revert c; decide

theorem dev4_eq (c : Dev nD) : (⟨k0_dev4 c, k0_dev4_lt c⟩ : Dev nD) = nxt 1 c := by revert c; decide

theorem dev5_eq (c : Dev nD) : (⟨k0_dev5 c, k0_dev5_lt c⟩ : Dev nD) = nxt 0 c := by revert c; decide

theorem dev6_eq (c : Dev nD) : (⟨k0_dev6 c, k0_dev6_lt c⟩ : Dev nD) = nxt 1 c := by revert c; decide

theorem dev7_eq (c : Dev nD) : (⟨k0_dev7 c, k0_dev7_lt c⟩ : Dev nD) = nxt 0 c := by revert c; decide

theorem dev8_eq (c : Dev nD) : (⟨k0_dev8 c, k0_dev8_lt c⟩ : Dev nD) = nxt 1 c := by revert c; decide

theorem dev9_eq (c : Dev nD) : (⟨k0_dev9 c, k0_dev9_lt c⟩ : Dev nD) = nxt 0 c := by revert c; decide

theorem dev10_eq (c : Dev nD) : (⟨k0_dev10 c, k0_dev10_lt c⟩ : Dev nD) = nxt 1 c := by revert c; decide

theorem dev11_eq (c : Dev nD) : (⟨k0_dev11 c, k0_dev11_lt c⟩ : Dev nD) = nxt 0 c := by revert c; decide

theorem dev12_eq (c : Dev nD) : (⟨k0_dev12 c, k0_dev12_lt c⟩ : Dev nD) = nxt 1 c := by revert c; decide

theorem dev13_eq (c : Dev nD) : (⟨k0_dev13 c, k0_dev13_lt c⟩ : Dev nD) = nxt 0 c := by revert c; decide

theorem dev14_eq (c : Dev nD) : (⟨k0_dev14 c, k0_dev14_lt c⟩ : Dev nD) = nxt 1 c := by revert c; decide

theorem dev15_eq (c : Dev nD) : (⟨k0_dev15 c, k0_dev15_lt c⟩ : Dev nD) = nxt 0 c := by revert c; decide

theorem dev16_eq (c : Dev nD) : (⟨k0_dev16 c, k0_dev16_lt c⟩ : Dev nD) = nxt 1 c := by revert c; decide

/-- What the body works on. -/
def bufs (c : Dev nD) (x : S2048x512.Idx → Elt F .bf16) (rw : S512x32.Idx → Elt F .bf16) (ri : S2048x2.Idx → Elt F .i32) : sProp 𝕄 :=
  iprop(owns (c : Thread nD τ) (Memref.whole cc0_stg0_0) fullShare x ∗ owns (c : Thread nD τ) (Memref.whole cc0_stg1_0) fullShare rw
    ∗ owns (c : Thread nD τ) (Memref.whole cc0_stg2_0) fullShare ri
    ∗ owns (c : Thread nD τ) (wM 0 0) fullShare (X 0 (org 0 0 c)) ∗ owns (c : Thread nD τ) (wM 1 0) fullShare (X 1 (org 1 0 c))
    ∗ (∃ Y, owns (c : Thread nD τ) (Memref.whole cc0_scratch2) fullShare Y))

/-- The cells' accounts and the slots. -/
def kits (c : Dev nD) : sProp 𝕄 :=
  iprop(barKit X K c ∗ slots 0 c ∗ slots 1 c
    ∗ (bigSep Finset.univ fun h => sendKit X K 0 h c) ∗ (bigSep Finset.univ fun h => sendKit X K 1 h c)
    ∗ (bigSep Finset.univ fun h => recvKit X K 0 h c) ∗ (bigSep Finset.univ fun h => recvKit X K 1 h c)
    ∗ levAts L lv ∗ owesAny c (O₀ c))

/-- After the body: the counters at zero and the slots back. -/
def dones (c : Dev nD) : sProp 𝕄 :=
  iprop(semVal (barCell c) 0
    ∗ (bigSep Finset.univ fun h => semVal (sendCell 0 h c) 0) ∗ (bigSep Finset.univ fun h => semVal (sendCell 1 h c) 0)
    ∗ (bigSep Finset.univ fun h => semVal (recvCell 0 h c) 0) ∗ (bigSep Finset.univ fun h => semVal (recvCell 1 h c) 0)
    ∗ (bigSep Finset.univ fun h : Fin 7 => owns (c : Thread nD τ) (wM 0 (h.val + 1)) fullShare (X 0 (org 0 (h.val + 1) c)))
    ∗ (bigSep Finset.univ fun h : Fin 7 => owns (c : Thread nD τ) (wM 1 (h.val + 1)) fullShare (X 1 (org 1 (h.val + 1) c)))
    ∗ owesAny c (owed c 0))

set_option maxHeartbeats 4000000 in
theorem bodyRun (c : Dev nD) (x : S2048x512.Idx → Elt F .bf16) (rw : S512x32.Idx → Elt F .bf16) (ri : S2048x2.Idx → Elt F .i32) (Kt : PUnit → sProp 𝕄) :
    iprop(kits X K c ∗ bufs X c x rw ri ∗ (∃ Y, owns (c : Thread nD τ) (Memref.whole cc0_stg5_0) fullShare Y)
        ∗ ((dones X c ∗ bufs X c x rw ri ∗ owns (c : Thread nD τ) (Memref.whole cc0_stg5_0) fullShare (outC X c x rw (pick0 ri) (pick1 ri) 7)) -∗ Kt ⟨⟩))
      ⊢ wp frame (wpE (defs₀ (F := F)) 𝒱₀ (c : Thread nD τ) none) Set.univ
        (cc0_body (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6) Kt := by
  rw [cc0_body_eq_skeleton]
  unfold cc0_body_skel
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, semSignalWord, semWaitWord, Prog.lift, Prog.bind_op, Prog.bind_ret, Prog.pure_eq_ret, Prog.bind_assoc, wp_deviceId]
  unfold kits bufs dones
  iintro ⟨⟨Hbar, Hsl0, Hsl1, HS0, HS1, HR0, HR1, #Hlev, HO⟩, ⟨Hx, Hrw, Hri, HW0_0, HW1_0, Hg⟩, ⟨%Y5, Hout⟩, Hk⟩
  ihave T := (Entails.of_eq (bigSep7 fun h => sendKit X K 0 h c)) $$ HS0
  icases T with ⟨HS0_0, HS0_1, HS0_2, HS0_3, HS0_4, HS0_5, HS0_6⟩
  ihave T := (Entails.of_eq (bigSep7 fun h => recvKit X K 0 h c)) $$ HR0
  icases T with ⟨HR0_0, HR0_1, HR0_2, HR0_3, HR0_4, HR0_5, HR0_6⟩
  ihave T := (Entails.of_eq (bigSep7 fun h => sendKit X K 1 h c)) $$ HS1
  icases T with ⟨HS1_0, HS1_1, HS1_2, HS1_3, HS1_4, HS1_5, HS1_6⟩
  ihave T := (Entails.of_eq (bigSep7 fun h => recvKit X K 1 h c)) $$ HR1
  icases T with ⟨HR1_0, HR1_1, HR1_2, HR1_3, HR1_4, HR1_5, HR1_6⟩
  iapply (step_bar X K c _ _ (dev1_eq c) (dev2_eq c)) $$ [Hbar Hsl0 Hsl1 HO]
  · isplitl [Hbar]; · iexact Hbar
    isplitl [Hsl0]; · iexact Hsl0
    isplitl [Hsl1]; · iexact Hsl1
    isplitr; · iexact Hlev
    iexact HO
  iintro ⟨Hvb, HD0, HD1, HO⟩
  ihave T := (Entails.of_eq ((barPay_eq 0 c).trans (bigSep7 fun h => dest 0 h c))) $$ HD0
  icases T with ⟨HD0_0, HD0_1, HD0_2, HD0_3, HD0_4, HD0_5, HD0_6⟩
  ihave T := (Entails.of_eq ((barPay_eq 1 c).trans (bigSep7 fun h => dest 1 h c))) $$ HD1
  icases T with ⟨HD1_0, HD1_1, HD1_2, HD1_3, HD1_4, HD1_5, HD1_6⟩
  -- hop 0, direction 0: the copy
  iapply (step_send X K c _ 0 0 0 13 14 rfl rfl (dev3_eq c) rfl rfl rfl rfl (by decide) (by decide)) $$ [HS0_0 HD0_0 HW0_0 HO]
  · isplitl [HS0_0]; · iexact HS0_0
    isplitl [HD0_0]; · iexact HD0_0
    isplitl [HW0_0]; · iexact HW0_0
    iexact HO
  iintro ⟨HS0_0, HW0_0, HO⟩
  -- hop 0, direction 1: the copy
  iapply (step_send X K c _ 1 0 0 12 13 rfl rfl (dev4_eq c) rfl rfl rfl rfl (by decide) (by decide)) $$ [HS1_0 HD1_0 HW1_0 HO]
  · isplitl [HS1_0]; · iexact HS1_0
    isplitl [HD1_0]; · iexact HD1_0
    isplitl [HW1_0]; · iexact HW1_0
    iexact HO
  iintro ⟨HS1_0, HW1_0, HO⟩
  iapply (step_loadAll (c := c)) $$ Hx
  iintro Hx
  iapply (step_loadAll (c := c)) $$ Hrw
  iintro Hrw
  iapply (step_load (c := c)) $$ Hri
  iintro Hri
  iapply (step_load (c := c)) $$ Hri
  iintro Hri
  iapply (step_gate (c := c)) $$ Hg
  iintro Hg
  iapply (step_loadW (c := c) 0 0 rfl) $$ HW0_0
  iintro HW0_0
  iapply (step_gate (c := c)) $$ Hg
  iintro Hg
  iapply (step_loadW (c := c) 1 0 rfl) $$ HW1_0
  iintro HW1_0
  iapply (step_loadAll (c := c)) $$ Hout
  iintro Hout
  iapply (step_storeAll (c := c)) $$ Hout
  iintro Hout
  -- hop 0, direction 0: the landing
  iapply (step_recv X K c 0 0 1 12 rfl rfl rfl (by decide) (by decide)) $$ [HR0_0 HO]
  · isplitl [HR0_0]; · iexact HR0_0
    isplitr; · iexact Hlev
    iexact HO
  iintro ⟨Hvr0_0, HW0_1, HO⟩
  -- hop 0, direction 1: the landing
  iapply (step_recv X K c 1 0 1 12 rfl rfl rfl (by decide) (by decide)) $$ [HR1_0 HO]
  · isplitl [HR1_0]; · iexact HR1_0
    isplitr; · iexact Hlev
    iexact HO
  iintro ⟨Hvr1_0, HW1_1, HO⟩
  -- hop 1, direction 0: the copy
  iapply (step_send X K c _ 0 1 1 11 12 rfl rfl (dev5_eq c) rfl rfl rfl rfl (by decide) (by decide)) $$ [HS0_1 HD0_1 HW0_1 HO]
  · isplitl [HS0_1]; · iexact HS0_1
    isplitl [HD0_1]; · iexact HD0_1
    isplitl [HW0_1]; · iexact HW0_1
    iexact HO
  iintro ⟨HS0_1, HW0_1, HO⟩
  -- hop 1, direction 1: the copy
  iapply (step_send X K c _ 1 1 1 10 11 rfl rfl (dev6_eq c) rfl rfl rfl rfl (by decide) (by decide)) $$ [HS1_1 HD1_1 HW1_1 HO]
  · isplitl [HS1_1]; · iexact HS1_1
    isplitl [HD1_1]; · iexact HD1_1
    isplitl [HW1_1]; · iexact HW1_1
    iexact HO
  iintro ⟨HS1_1, HW1_1, HO⟩
  iapply (step_gate (c := c)) $$ Hg
  iintro Hg
  iapply (step_loadW (c := c) 0 1 rfl) $$ HW0_1
  iintro HW0_1
  iapply (step_gate (c := c)) $$ Hg
  iintro Hg
  iapply (step_loadW (c := c) 1 1 rfl) $$ HW1_1
  iintro HW1_1
  iapply (step_loadAll (c := c)) $$ Hout
  iintro Hout
  iapply (step_loadAll (c := c)) $$ Hout
  iintro Hout
  iapply (step_storeAll (c := c)) $$ Hout
  iintro Hout
  -- hop 1, direction 0: the landing
  iapply (step_recv X K c 0 1 2 10 rfl rfl rfl (by decide) (by decide)) $$ [HR0_1 HO]
  · isplitl [HR0_1]; · iexact HR0_1
    isplitr; · iexact Hlev
    iexact HO
  iintro ⟨Hvr0_1, HW0_2, HO⟩
  -- hop 1, direction 1: the landing
  iapply (step_recv X K c 1 1 2 10 rfl rfl rfl (by decide) (by decide)) $$ [HR1_1 HO]
  · isplitl [HR1_1]; · iexact HR1_1
    isplitr; · iexact Hlev
    iexact HO
  iintro ⟨Hvr1_1, HW1_2, HO⟩
  -- hop 2, direction 0: the copy
  iapply (step_send X K c _ 0 2 2 9 10 rfl rfl (dev7_eq c) rfl rfl rfl rfl (by decide) (by decide)) $$ [HS0_2 HD0_2 HW0_2 HO]
  · isplitl [HS0_2]; · iexact HS0_2
    isplitl [HD0_2]; · iexact HD0_2
    isplitl [HW0_2]; · iexact HW0_2
    iexact HO
  iintro ⟨HS0_2, HW0_2, HO⟩
  -- hop 2, direction 1: the copy
  iapply (step_send X K c _ 1 2 2 8 9 rfl rfl (dev8_eq c) rfl rfl rfl rfl (by decide) (by decide)) $$ [HS1_2 HD1_2 HW1_2 HO]
  · isplitl [HS1_2]; · iexact HS1_2
    isplitl [HD1_2]; · iexact HD1_2
    isplitl [HW1_2]; · iexact HW1_2
    iexact HO
  iintro ⟨HS1_2, HW1_2, HO⟩
  iapply (step_gate (c := c)) $$ Hg
  iintro Hg
  iapply (step_loadW (c := c) 0 2 rfl) $$ HW0_2
  iintro HW0_2
  iapply (step_gate (c := c)) $$ Hg
  iintro Hg
  iapply (step_loadW (c := c) 1 2 rfl) $$ HW1_2
  iintro HW1_2
  iapply (step_loadAll (c := c)) $$ Hout
  iintro Hout
  iapply (step_loadAll (c := c)) $$ Hout
  iintro Hout
  iapply (step_storeAll (c := c)) $$ Hout
  iintro Hout
  -- hop 2, direction 0: the landing
  iapply (step_recv X K c 0 2 3 8 rfl rfl rfl (by decide) (by decide)) $$ [HR0_2 HO]
  · isplitl [HR0_2]; · iexact HR0_2
    isplitr; · iexact Hlev
    iexact HO
  iintro ⟨Hvr0_2, HW0_3, HO⟩
  -- hop 2, direction 1: the landing
  iapply (step_recv X K c 1 2 3 8 rfl rfl rfl (by decide) (by decide)) $$ [HR1_2 HO]
  · isplitl [HR1_2]; · iexact HR1_2
    isplitr; · iexact Hlev
    iexact HO
  iintro ⟨Hvr1_2, HW1_3, HO⟩
  -- hop 3, direction 0: the copy
  iapply (step_send X K c _ 0 3 3 7 8 rfl rfl (dev9_eq c) rfl rfl rfl rfl (by decide) (by decide)) $$ [HS0_3 HD0_3 HW0_3 HO]
  · isplitl [HS0_3]; · iexact HS0_3
    isplitl [HD0_3]; · iexact HD0_3
    isplitl [HW0_3]; · iexact HW0_3
    iexact HO
  iintro ⟨HS0_3, HW0_3, HO⟩
  -- hop 3, direction 1: the copy
  iapply (step_send X K c _ 1 3 3 6 7 rfl rfl (dev10_eq c) rfl rfl rfl rfl (by decide) (by decide)) $$ [HS1_3 HD1_3 HW1_3 HO]
  · isplitl [HS1_3]; · iexact HS1_3
    isplitl [HD1_3]; · iexact HD1_3
    isplitl [HW1_3]; · iexact HW1_3
    iexact HO
  iintro ⟨HS1_3, HW1_3, HO⟩
  iapply (step_gate (c := c)) $$ Hg
  iintro Hg
  iapply (step_loadW (c := c) 0 3 rfl) $$ HW0_3
  iintro HW0_3
  iapply (step_gate (c := c)) $$ Hg
  iintro Hg
  iapply (step_loadW (c := c) 1 3 rfl) $$ HW1_3
  iintro HW1_3
  iapply (step_loadAll (c := c)) $$ Hout
  iintro Hout
  iapply (step_loadAll (c := c)) $$ Hout
  iintro Hout
  iapply (step_storeAll (c := c)) $$ Hout
  iintro Hout
  -- hop 3, direction 0: the landing
  iapply (step_recv X K c 0 3 4 6 rfl rfl rfl (by decide) (by decide)) $$ [HR0_3 HO]
  · isplitl [HR0_3]; · iexact HR0_3
    isplitr; · iexact Hlev
    iexact HO
  iintro ⟨Hvr0_3, HW0_4, HO⟩
  -- hop 3, direction 1: the landing
  iapply (step_recv X K c 1 3 4 6 rfl rfl rfl (by decide) (by decide)) $$ [HR1_3 HO]
  · isplitl [HR1_3]; · iexact HR1_3
    isplitr; · iexact Hlev
    iexact HO
  iintro ⟨Hvr1_3, HW1_4, HO⟩
  -- hop 4, direction 0: the copy
  iapply (step_send X K c _ 0 4 4 5 6 rfl rfl (dev11_eq c) rfl rfl rfl rfl (by decide) (by decide)) $$ [HS0_4 HD0_4 HW0_4 HO]
  · isplitl [HS0_4]; · iexact HS0_4
    isplitl [HD0_4]; · iexact HD0_4
    isplitl [HW0_4]; · iexact HW0_4
    iexact HO
  iintro ⟨HS0_4, HW0_4, HO⟩
  -- hop 4, direction 1: the copy
  iapply (step_send X K c _ 1 4 4 4 5 rfl rfl (dev12_eq c) rfl rfl rfl rfl (by decide) (by decide)) $$ [HS1_4 HD1_4 HW1_4 HO]
  · isplitl [HS1_4]; · iexact HS1_4
    isplitl [HD1_4]; · iexact HD1_4
    isplitl [HW1_4]; · iexact HW1_4
    iexact HO
  iintro ⟨HS1_4, HW1_4, HO⟩
  iapply (step_gate (c := c)) $$ Hg
  iintro Hg
  iapply (step_loadW (c := c) 0 4 rfl) $$ HW0_4
  iintro HW0_4
  iapply (step_gate (c := c)) $$ Hg
  iintro Hg
  iapply (step_loadW (c := c) 1 4 rfl) $$ HW1_4
  iintro HW1_4
  iapply (step_loadAll (c := c)) $$ Hout
  iintro Hout
  iapply (step_loadAll (c := c)) $$ Hout
  iintro Hout
  iapply (step_storeAll (c := c)) $$ Hout
  iintro Hout
  -- hop 4, direction 0: the landing
  iapply (step_recv X K c 0 4 5 4 rfl rfl rfl (by decide) (by decide)) $$ [HR0_4 HO]
  · isplitl [HR0_4]; · iexact HR0_4
    isplitr; · iexact Hlev
    iexact HO
  iintro ⟨Hvr0_4, HW0_5, HO⟩
  -- hop 4, direction 1: the landing
  iapply (step_recv X K c 1 4 5 4 rfl rfl rfl (by decide) (by decide)) $$ [HR1_4 HO]
  · isplitl [HR1_4]; · iexact HR1_4
    isplitr; · iexact Hlev
    iexact HO
  iintro ⟨Hvr1_4, HW1_5, HO⟩
  -- hop 5, direction 0: the copy
  iapply (step_send X K c _ 0 5 5 3 4 rfl rfl (dev13_eq c) rfl rfl rfl rfl (by decide) (by decide)) $$ [HS0_5 HD0_5 HW0_5 HO]
  · isplitl [HS0_5]; · iexact HS0_5
    isplitl [HD0_5]; · iexact HD0_5
    isplitl [HW0_5]; · iexact HW0_5
    iexact HO
  iintro ⟨HS0_5, HW0_5, HO⟩
  -- hop 5, direction 1: the copy
  iapply (step_send X K c _ 1 5 5 2 3 rfl rfl (dev14_eq c) rfl rfl rfl rfl (by decide) (by decide)) $$ [HS1_5 HD1_5 HW1_5 HO]
  · isplitl [HS1_5]; · iexact HS1_5
    isplitl [HD1_5]; · iexact HD1_5
    isplitl [HW1_5]; · iexact HW1_5
    iexact HO
  iintro ⟨HS1_5, HW1_5, HO⟩
  iapply (step_gate (c := c)) $$ Hg
  iintro Hg
  iapply (step_loadW (c := c) 0 5 rfl) $$ HW0_5
  iintro HW0_5
  iapply (step_gate (c := c)) $$ Hg
  iintro Hg
  iapply (step_loadW (c := c) 1 5 rfl) $$ HW1_5
  iintro HW1_5
  iapply (step_loadAll (c := c)) $$ Hout
  iintro Hout
  iapply (step_loadAll (c := c)) $$ Hout
  iintro Hout
  iapply (step_storeAll (c := c)) $$ Hout
  iintro Hout
  -- hop 5, direction 0: the landing
  iapply (step_recv X K c 0 5 6 2 rfl rfl rfl (by decide) (by decide)) $$ [HR0_5 HO]
  · isplitl [HR0_5]; · iexact HR0_5
    isplitr; · iexact Hlev
    iexact HO
  iintro ⟨Hvr0_5, HW0_6, HO⟩
  -- hop 5, direction 1: the landing
  iapply (step_recv X K c 1 5 6 2 rfl rfl rfl (by decide) (by decide)) $$ [HR1_5 HO]
  · isplitl [HR1_5]; · iexact HR1_5
    isplitr; · iexact Hlev
    iexact HO
  iintro ⟨Hvr1_5, HW1_6, HO⟩
  -- hop 6, direction 0: the copy
  iapply (step_send X K c _ 0 6 6 1 2 rfl rfl (dev15_eq c) rfl rfl rfl rfl (by decide) (by decide)) $$ [HS0_6 HD0_6 HW0_6 HO]
  · isplitl [HS0_6]; · iexact HS0_6
    isplitl [HD0_6]; · iexact HD0_6
    isplitl [HW0_6]; · iexact HW0_6
    iexact HO
  iintro ⟨HS0_6, HW0_6, HO⟩
  -- hop 6, direction 1: the copy
  iapply (step_send X K c _ 1 6 6 0 1 rfl rfl (dev16_eq c) rfl rfl rfl rfl (by decide) (by decide)) $$ [HS1_6 HD1_6 HW1_6 HO]
  · isplitl [HS1_6]; · iexact HS1_6
    isplitl [HD1_6]; · iexact HD1_6
    isplitl [HW1_6]; · iexact HW1_6
    iexact HO
  iintro ⟨HS1_6, HW1_6, HO⟩
  iapply (step_gate (c := c)) $$ Hg
  iintro Hg
  iapply (step_loadW (c := c) 0 6 rfl) $$ HW0_6
  iintro HW0_6
  iapply (step_gate (c := c)) $$ Hg
  iintro Hg
  iapply (step_loadW (c := c) 1 6 rfl) $$ HW1_6
  iintro HW1_6
  iapply (step_loadAll (c := c)) $$ Hout
  iintro Hout
  iapply (step_loadAll (c := c)) $$ Hout
  iintro Hout
  iapply (step_storeAll (c := c)) $$ Hout
  iintro Hout
  -- hop 6, direction 0: the landing
  iapply (step_recv X K c 0 6 7 0 rfl rfl rfl (by decide) (by decide)) $$ [HR0_6 HO]
  · isplitl [HR0_6]; · iexact HR0_6
    isplitr; · iexact Hlev
    iexact HO
  iintro ⟨Hvr0_6, HW0_7, HO⟩
  -- hop 6, direction 1: the landing
  iapply (step_recv X K c 1 6 7 0 rfl rfl rfl (by decide) (by decide)) $$ [HR1_6 HO]
  · isplitl [HR1_6]; · iexact HR1_6
    isplitr; · iexact Hlev
    iexact HO
  iintro ⟨Hvr1_6, HW1_7, HO⟩
  iapply (step_gate (c := c)) $$ Hg
  iintro Hg
  iapply (step_loadW (c := c) 0 7 rfl) $$ HW0_7
  iintro HW0_7
  iapply (step_gate (c := c)) $$ Hg
  iintro Hg
  iapply (step_loadW (c := c) 1 7 rfl) $$ HW1_7
  iintro HW1_7
  iapply (step_loadAll (c := c)) $$ Hout
  iintro Hout
  iapply (step_loadAll (c := c)) $$ Hout
  iintro Hout
  iapply (step_storeAll (c := c)) $$ Hout
  iintro Hout
  iapply (step_done X K c 0 0 0 rfl (by first | rfl | exact N_slot _ _) rfl) $$ [HS0_0 HW0_0 HO]
  · isplitl [HS0_0]; · iexact HS0_0
    isplitl [HW0_0]; · iexact HW0_0
    iexact HO
  iintro ⟨Hvs0_0, HW0_0, HO⟩
  iapply (step_done X K c 1 0 0 rfl (by first | rfl | exact N_slot _ _) rfl) $$ [HS1_0 HW1_0 HO]
  · isplitl [HS1_0]; · iexact HS1_0
    isplitl [HW1_0]; · iexact HW1_0
    iexact HO
  iintro ⟨Hvs1_0, HW1_0, HO⟩
  iapply (step_done X K c 0 1 1 rfl (by first | rfl | exact N_slot _ _) rfl) $$ [HS0_1 HW0_1 HO]
  · isplitl [HS0_1]; · iexact HS0_1
    isplitl [HW0_1]; · iexact HW0_1
    iexact HO
  iintro ⟨Hvs0_1, HW0_1, HO⟩
  iapply (step_done X K c 1 1 1 rfl (by first | rfl | exact N_slot _ _) rfl) $$ [HS1_1 HW1_1 HO]
  · isplitl [HS1_1]; · iexact HS1_1
    isplitl [HW1_1]; · iexact HW1_1
    iexact HO
  iintro ⟨Hvs1_1, HW1_1, HO⟩
  iapply (step_done X K c 0 2 2 rfl (by first | rfl | exact N_slot _ _) rfl) $$ [HS0_2 HW0_2 HO]
  · isplitl [HS0_2]; · iexact HS0_2
    isplitl [HW0_2]; · iexact HW0_2
    iexact HO
  iintro ⟨Hvs0_2, HW0_2, HO⟩
  iapply (step_done X K c 1 2 2 rfl (by first | rfl | exact N_slot _ _) rfl) $$ [HS1_2 HW1_2 HO]
  · isplitl [HS1_2]; · iexact HS1_2
    isplitl [HW1_2]; · iexact HW1_2
    iexact HO
  iintro ⟨Hvs1_2, HW1_2, HO⟩
  iapply (step_done X K c 0 3 3 rfl (by first | rfl | exact N_slot _ _) rfl) $$ [HS0_3 HW0_3 HO]
  · isplitl [HS0_3]; · iexact HS0_3
    isplitl [HW0_3]; · iexact HW0_3
    iexact HO
  iintro ⟨Hvs0_3, HW0_3, HO⟩
  iapply (step_done X K c 1 3 3 rfl (by first | rfl | exact N_slot _ _) rfl) $$ [HS1_3 HW1_3 HO]
  · isplitl [HS1_3]; · iexact HS1_3
    isplitl [HW1_3]; · iexact HW1_3
    iexact HO
  iintro ⟨Hvs1_3, HW1_3, HO⟩
  iapply (step_done X K c 0 4 4 rfl (by first | rfl | exact N_slot _ _) rfl) $$ [HS0_4 HW0_4 HO]
  · isplitl [HS0_4]; · iexact HS0_4
    isplitl [HW0_4]; · iexact HW0_4
    iexact HO
  iintro ⟨Hvs0_4, HW0_4, HO⟩
  iapply (step_done X K c 1 4 4 rfl (by first | rfl | exact N_slot _ _) rfl) $$ [HS1_4 HW1_4 HO]
  · isplitl [HS1_4]; · iexact HS1_4
    isplitl [HW1_4]; · iexact HW1_4
    iexact HO
  iintro ⟨Hvs1_4, HW1_4, HO⟩
  iapply (step_done X K c 0 5 5 rfl (by first | rfl | exact N_slot _ _) rfl) $$ [HS0_5 HW0_5 HO]
  · isplitl [HS0_5]; · iexact HS0_5
    isplitl [HW0_5]; · iexact HW0_5
    iexact HO
  iintro ⟨Hvs0_5, HW0_5, HO⟩
  iapply (step_done X K c 1 5 5 rfl (by first | rfl | exact N_slot _ _) rfl) $$ [HS1_5 HW1_5 HO]
  · isplitl [HS1_5]; · iexact HS1_5
    isplitl [HW1_5]; · iexact HW1_5
    iexact HO
  iintro ⟨Hvs1_5, HW1_5, HO⟩
  iapply (step_done X K c 0 6 6 rfl (by first | rfl | exact N_slot _ _) rfl) $$ [HS0_6 HW0_6 HO]
  · isplitl [HS0_6]; · iexact HS0_6
    isplitl [HW0_6]; · iexact HW0_6
    iexact HO
  iintro ⟨Hvs0_6, HW0_6, HO⟩
  iapply (step_done X K c 1 6 6 rfl (by first | rfl | exact N_slot _ _) rfl) $$ [HS1_6 HW1_6 HO]
  · isplitl [HS1_6]; · iexact HS1_6
    isplitl [HW1_6]; · iexact HW1_6
    iexact HO
  iintro ⟨Hvs1_6, HW1_6, HO⟩
  rw [wp_ret]
  imodintro
  iapply Hk
  isplitl [Hvb Hvs0_0 Hvs0_1 Hvs0_2 Hvs0_3 Hvs0_4 Hvs0_5 Hvs0_6 Hvs1_0 Hvs1_1 Hvs1_2 Hvs1_3 Hvs1_4 Hvs1_5 Hvs1_6 Hvr0_0 Hvr0_1 Hvr0_2 Hvr0_3 Hvr0_4 Hvr0_5 Hvr0_6 Hvr1_0 Hvr1_1 Hvr1_2 Hvr1_3 Hvr1_4 Hvr1_5 Hvr1_6 HW0_1 HW0_2 HW0_3 HW0_4 HW0_5 HW0_6 HW0_7 HW1_1 HW1_2 HW1_3 HW1_4 HW1_5 HW1_6 HW1_7 HO]
  · isplitl [Hvb]
    · iexact Hvb
    isplitl [Hvs0_0 Hvs0_1 Hvs0_2 Hvs0_3 Hvs0_4 Hvs0_5 Hvs0_6]
    · iapply (Entails.of_eq (bigSep7 fun h => semVal (sendCell 0 h c) 0).symm)
      isplitl [Hvs0_0]; · iexact Hvs0_0
      isplitl [Hvs0_1]; · iexact Hvs0_1
      isplitl [Hvs0_2]; · iexact Hvs0_2
      isplitl [Hvs0_3]; · iexact Hvs0_3
      isplitl [Hvs0_4]; · iexact Hvs0_4
      isplitl [Hvs0_5]; · iexact Hvs0_5
      iexact Hvs0_6
    isplitl [Hvs1_0 Hvs1_1 Hvs1_2 Hvs1_3 Hvs1_4 Hvs1_5 Hvs1_6]
    · iapply (Entails.of_eq (bigSep7 fun h => semVal (sendCell 1 h c) 0).symm)
      isplitl [Hvs1_0]; · iexact Hvs1_0
      isplitl [Hvs1_1]; · iexact Hvs1_1
      isplitl [Hvs1_2]; · iexact Hvs1_2
      isplitl [Hvs1_3]; · iexact Hvs1_3
      isplitl [Hvs1_4]; · iexact Hvs1_4
      isplitl [Hvs1_5]; · iexact Hvs1_5
      iexact Hvs1_6
    isplitl [Hvr0_0 Hvr0_1 Hvr0_2 Hvr0_3 Hvr0_4 Hvr0_5 Hvr0_6]
    · iapply (Entails.of_eq (bigSep7 fun h => semVal (recvCell 0 h c) 0).symm)
      isplitl [Hvr0_0]; · iexact Hvr0_0
      isplitl [Hvr0_1]; · iexact Hvr0_1
      isplitl [Hvr0_2]; · iexact Hvr0_2
      isplitl [Hvr0_3]; · iexact Hvr0_3
      isplitl [Hvr0_4]; · iexact Hvr0_4
      isplitl [Hvr0_5]; · iexact Hvr0_5
      iexact Hvr0_6
    isplitl [Hvr1_0 Hvr1_1 Hvr1_2 Hvr1_3 Hvr1_4 Hvr1_5 Hvr1_6]
    · iapply (Entails.of_eq (bigSep7 fun h => semVal (recvCell 1 h c) 0).symm)
      isplitl [Hvr1_0]; · iexact Hvr1_0
      isplitl [Hvr1_1]; · iexact Hvr1_1
      isplitl [Hvr1_2]; · iexact Hvr1_2
      isplitl [Hvr1_3]; · iexact Hvr1_3
      isplitl [Hvr1_4]; · iexact Hvr1_4
      isplitl [Hvr1_5]; · iexact Hvr1_5
      iexact Hvr1_6
    isplitl [HW0_1 HW0_2 HW0_3 HW0_4 HW0_5 HW0_6 HW0_7]
    · iapply (Entails.of_eq (bigSep7 fun h : Fin 7 => owns (c : Thread nD τ) (wM 0 (h.val + 1)) fullShare (X 0 (org 0 (h.val + 1) c))).symm)
      isplitl [HW0_1]; · iexact HW0_1
      isplitl [HW0_2]; · iexact HW0_2
      isplitl [HW0_3]; · iexact HW0_3
      isplitl [HW0_4]; · iexact HW0_4
      isplitl [HW0_5]; · iexact HW0_5
      isplitl [HW0_6]; · iexact HW0_6
      iexact HW0_7
    isplitl [HW1_1 HW1_2 HW1_3 HW1_4 HW1_5 HW1_6 HW1_7]
    · iapply (Entails.of_eq (bigSep7 fun h : Fin 7 => owns (c : Thread nD τ) (wM 1 (h.val + 1)) fullShare (X 1 (org 1 (h.val + 1) c))).symm)
      isplitl [HW1_1]; · iexact HW1_1
      isplitl [HW1_2]; · iexact HW1_2
      isplitl [HW1_3]; · iexact HW1_3
      isplitl [HW1_4]; · iexact HW1_4
      isplitl [HW1_5]; · iexact HW1_5
      isplitl [HW1_6]; · iexact HW1_6
      iexact HW1_7
    iexact HO
  isplitl [Hx Hrw Hri HW0_0 HW1_0 Hg]
  · isplitl [Hx]
    · iexact Hx
    isplitl [Hrw]
    · iexact Hrw
    isplitl [Hri]
    · iexact Hri
    isplitl [HW0_0]
    · iexact HW0_0
    isplitl [HW1_0]
    · iexact HW1_0
    iexact Hg
  iexact Hout

end Cert.KernelIdeal.Hop

end
-- ==== Proof.Region.lean ====
/-
  The kernel's region of @main: what it is entered with and left with, its body's obligation from the run of the body, and the
  landing buffers as their slots.
-/
module

public import proofs.«01_k».proof.Proof.Run
public import proofs.«01_k».proof.Proof.Gen.KernelIdeal.Frame
public import Idealize.ShloMosaic.Lib.Pipeline.RegionTalk
public import Idealize.ShloMosaic.Lib.Pipeline.ValueKit
public import Idealize.ShloMosaic.Lib.Rounds.Family

@[expose] public section

set_option maxRecDepth 16384

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Ring (lead_disjoint lead_cover pointsTo_blocks pointsTo_blocks_join_exists)
open Idealize.ShloMosaic.Pipeline (Dat Cfg Window BodyObligation cellOf)
open Cert.KernelIdeal.Gen

variable {F : FTy → Type} [FloatOps F]

local notation "𝕄" => MT nD τ sig Unit (Elt F) ℕ UU ℕ

/-! ## The landing buffers as their slots -/

abbrev anyAt (c : Dev nD) (b : Ref sig .tc) : sProp 𝕄 :=
  iprop(∃ f : Buf (Elt F) ((c : Thread nD τ).loc b), ((c : Thread nD τ).loc b) ↦{fullShare} f)
def slotsAny (d : Fin 2) (c : Dev nD) : sProp 𝕄 :=
  bigSep Finset.univ fun h : Fin 7 => iprop(∃ Y, owns (c : Thread nD τ) (slotM d h) fullShare Y)

theorem slotR_disj (h h' : Fin 7) (e : h ≠ h') : Disjoint (slotR h).set (slotR h').set :=
  lead_disjoint (s := S7x1024x1024) (0 : Fin 3) 1 (fun h : Fin 7 => ![h.val, 0, 0]) S1x1024x1024.size inb_slot
    (fun h => (Nat.one_mul _).symm) rfl h h' e
theorem slotR_cover : Finset.univ.biUnion (fun h : Fin 7 => (slotR h).set) = Finset.univ :=
  lead_cover (s := S7x1024x1024) (0 : Fin 3) 1 (fun h : Fin 7 => ![h.val, 0, 0]) S1x1024x1024.size inb_slot
    (fun h => (Nat.one_mul _).symm) (fun h a ha => by fin_cases a <;> first | rfl | exact absurd rfl ha) rfl
    (fun a ha => by fin_cases a <;> first | rfl | exact absurd rfl ha) rfl

theorem slotM0_set (h : Fin 7) : (slotM 0 h).view.set = (slotR h).set :=
  (Memref.set_view_squeeze _ squeezes_S1x1024x1024_S1024x1024).trans (View.set_slice_whole cc0_scratch0 (slotR h))
theorem slotM1_set (h : Fin 7) : (slotM 1 h).view.set = (slotR h).set :=
  (Memref.set_view_squeeze _ squeezes_S1x1024x1024_S1024x1024).trans (View.set_slice_whole cc0_scratch1 (slotR h))

/-- `bigSep` is monotone, in the logic's own notation. -/
theorem bigSep_le {I : Type} {s : Finset I} {Φ Ψ : I → sProp 𝕄} (h : ∀ i, Φ i ⊢ Ψ i) : bigSep s Φ ⊢ bigSep s Ψ :=
  bigSep_mono fun i _ => h i

theorem split0 (c : Dev nD) : (anyAt c cc0_scratch0 : sProp 𝕄) ⊢ slotsAny 0 c := by
  iintro ⟨%f, H⟩
  ihave H' := (Entails.of_eq (pointsTo_blocks (ℓ := (c : Thread nD τ).loc cc0_scratch0) (fun h : Fin 7 => (slotR h).set) slotR_disj slotR_cover f)) $$ H
  unfold slotsAny
  iapply (bigSep_le (F := F) (s := (Finset.univ : Finset (Fin 7))) fun h => ?_) $$ H'
  rw [← slotM0_set]
  show (View.loc (c : Thread nD τ) (slotM 0 h).view ↦[(slotM 0 h).view.set]{fullShare} f : sProp 𝕄) ⊢ _
  iintro H; iexists _; iapply (owns_intro (c : Thread nD τ) (slotM 0 h) fullShare f) $$ H
theorem split1 (c : Dev nD) : (anyAt c cc0_scratch1 : sProp 𝕄) ⊢ slotsAny 1 c := by
  iintro ⟨%f, H⟩
  ihave H' := (Entails.of_eq (pointsTo_blocks (ℓ := (c : Thread nD τ).loc cc0_scratch1) (fun h : Fin 7 => (slotR h).set) slotR_disj slotR_cover f)) $$ H
  unfold slotsAny
  iapply (bigSep_le (F := F) (s := (Finset.univ : Finset (Fin 7))) fun h => ?_) $$ H'
  rw [← slotM1_set]
  show (View.loc (c : Thread nD τ) (slotM 1 h).view ↦[(slotM 1 h).view.set]{fullShare} f : sProp 𝕄) ⊢ _
  iintro H; iexists _; iapply (owns_intro (c : Thread nD τ) (slotM 1 h) fullShare f) $$ H

theorem join0 (c : Dev nD) (Y : Fin 7 → (S1024x1024.Idx → Elt F .bf16)) :
    (bigSep Finset.univ fun h : Fin 7 => owns (c : Thread nD τ) (wM 0 (h.val + 1)) fullShare (Y h) : sProp 𝕄) ⊢ anyAt c cc0_scratch0 := by
  refine (bigSep_le (F := F) (s := (Finset.univ : Finset (Fin 7))) (Ψ := fun h : Fin 7 => iprop(∃ f, ((c : Thread nD τ).loc cc0_scratch0) ↦[(slotR h).set]{fullShare} f)) fun h => ?_).trans
    (pointsTo_blocks_join_exists (ℓ := (c : Thread nD τ).loc cc0_scratch0) (fun h : Fin 7 => (slotR h).set) slotR_disj slotR_cover
      (fun _ => Classical.arbitrary _))
  rw [wM_succ, ← slotM0_set]
  unfold owns
  iintro ⟨%g, -, H⟩; iexists g; iexact H
theorem join1 (c : Dev nD) (Y : Fin 7 → (S1024x1024.Idx → Elt F .bf16)) :
    (bigSep Finset.univ fun h : Fin 7 => owns (c : Thread nD τ) (wM 1 (h.val + 1)) fullShare (Y h) : sProp 𝕄) ⊢ anyAt c cc0_scratch1 := by
  refine (bigSep_le (F := F) (s := (Finset.univ : Finset (Fin 7))) (Ψ := fun h : Fin 7 => iprop(∃ f, ((c : Thread nD τ).loc cc0_scratch1) ↦[(slotR h).set]{fullShare} f)) fun h => ?_).trans
    (pointsTo_blocks_join_exists (ℓ := (c : Thread nD τ).loc cc0_scratch1) (fun h : Fin 7 => (slotR h).set) slotR_disj slotR_cover
      (fun _ => Classical.arbitrary _))
  rw [wM_succ, ← slotM1_set]
  unfold owns
  iintro ⟨%g, -, H⟩; iexists g; iexact H

/-! ## Contents and proof data -/

variable (m : (ℓ : Loc nD τ sig) → Buf (Elt F) ℓ)

/-- The buffers as launched, and after the operations before the region. -/
abbrev V₀ (c : Dev nD) : Valuation τ sig (Elt F) := fun b => m (c, b)
abbrev V₁ (c : Dev nD) : Valuation τ sig (Elt F) := StableHlo.after hostOps0 (V₀ m c)

/-- What goes around in each direction: the two halves of a device's experts. -/
def Xm : Fin 2 → Dev nD → (S1024x1024.Idx → Elt F .bf16)
  | 0 => fun c => V₁ m c main_v2
  | 1 => fun c => V₁ m c main_v3

/-- What the body leaves in the result's staging buffer. -/
def res (c : Dev nD) : S2048x1024.Idx → Elt F .bf16 :=
  outC (Xm m) c (V₁ m c main_arg0) (V₁ m c main_arg1) (pick0 (V₁ m c main_arg2)) (pick1 (V₁ m c main_arg2)) 7

/-- Around the kernel, and after the operation behind it. -/
abbrev V₂ (c : Dev nD) : Valuation τ sig (Elt F) := Function.update (V₁ m c) (Proc.devRef .tc main_v4) (res m c)
abbrev V₃ (c : Dev nD) : Valuation τ sig (Elt F) := StableHlo.after hostOps1 (V₂ m c)

/-- The accounts a device enters the kernel with, but for what it owes and the slots. -/
def opened (K : GSem nD τ sig → ℕ) (c : Dev nD) : sProp 𝕄 :=
  iprop(barKit (Xm m) K c
    ∗ (bigSep Finset.univ fun h : Fin 7 => sendKit (Xm m) K 0 h c) ∗ (bigSep Finset.univ fun h : Fin 7 => sendKit (Xm m) K 1 h c)
    ∗ (bigSep Finset.univ fun h : Fin 7 => recvKit (Xm m) K 0 h c) ∗ (bigSep Finset.univ fun h : Fin 7 => recvKit (Xm m) K 1 h c)
    ∗ (bigSep Finset.univ fun h : Fin 7 => reached ER (recvCell 0 h c) 0) ∗ (bigSep Finset.univ fun h : Fin 7 => reached ER (recvCell 1 h c) 0))
def Xk (c : Dev nD) : sProp 𝕄 := iprop((∃ K, opened m K c) ∗ levAts L lv)
def Yk (c : Dev nD) : sProp 𝕄 := semVal (barCell c) 0
/-- The transfer counters at zero. -/
def zeros (c : Dev nD) : sProp 𝕄 :=
  iprop((bigSep Finset.univ fun h : Fin 7 => semVal (sendCell 0 h c) 0) ∗ (bigSep Finset.univ fun h : Fin 7 => semVal (sendCell 1 h c) 0)
    ∗ (bigSep Finset.univ fun h : Fin 7 => semVal (recvCell 0 h c) 0) ∗ (bigSep Finset.univ fun h : Fin 7 => semVal (recvCell 1 h c) 0))
def scr (c : Dev nD) : sProp 𝕄 := iprop(anyAt c cc0_scratch0 ∗ anyAt c cc0_scratch1 ∗ anyAt c cc0_scratch2)

def Φ₀ (c : Dev nD) : sProp 𝕄 := iprop(Xk m c ∗ scr c ∗ ∃ r, prngReg c r)
def Φ₁ (c : Dev nD) : sProp 𝕄 := iprop(Yk c ∗ zeros c ∗ scr c ∗ ∃ r, prngReg c r)

def dat0 (c : Dev nD) : Dat τ (Elt F) Unit ℕ UU ℕ cfg0 c where
  A w := V₁ m c (Proc.devRef .tc (Pipeline.arrRef spec0 w))
  after w _ := match w with
    | ⟨0, _⟩ => V₁ m c main_arg0
    | ⟨1, _⟩ => V₁ m c main_arg1
    | ⟨2, _⟩ => V₁ m c main_arg2
    | ⟨3, _⟩ => Xm m 0 c
    | ⟨4, _⟩ => Xm m 1 c
    | ⟨5, _⟩ => res m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem owesAt_in (c : Dev nD) : ((dat0 m c).owesAt () t0_0.castSucc : sProp 𝕄) ⊢ owesAny c (O₀ c) := by
  unfold Dat.owesAt Pipeline.owesWithin owesAny
  rw [show (dat0 m c).owed t0_0.castSucc = O₀ c from rfl]
  iintro ⟨%W, -, HO⟩; iexists W; iexact HO
theorem owesAt_out (c : Dev nD) : (owesAny c (owed c 0) : sProp 𝕄) ⊢ (dat0 m c).owesAt () t0_0.succ := by
  unfold Dat.owesAt Pipeline.owesWithin Dat.bound owesAny
  rw [show (dat0 m c).owed t0_0.succ = owed c 0 from rfl, show (dat0 m c).recorded t0_0.succ = Set.univ from rfl]
  iintro ⟨%W, HO⟩; iexists W; isplitr; · ipureintro; exact fun _ _ => Or.inl trivial
  iexact HO

theorem read_blk0 (f : (main_arg0 : Ref sig .tc).ty.Contents (Elt F)) : ((cfg0.win 0).blk t0_0).view.read (Elt F) f = f := by
  funext i
  show f (((cfg0.win 0).blk t0_0).view.emb i) = f i
  refine congrArg f (funext fun a => Fin.ext ?_)
  refine (ValueKit.view_emb_slice_whole_unit_val main_arg0 _ _ _ i a).trans ?_
  fin_cases a <;> exact Nat.zero_add _
theorem read_blk1 (f : (main_arg1 : Ref sig .tc).ty.Contents (Elt F)) : ((cfg0.win 1).blk t0_0).view.read (Elt F) f = f := by
  funext i
  show f (((cfg0.win 1).blk t0_0).view.emb i) = f i
  refine congrArg f (funext fun a => Fin.ext ?_)
  refine (ValueKit.view_emb_slice_whole_unit_val main_arg1 _ _ _ i a).trans ?_
  fin_cases a <;> exact Nat.zero_add _
theorem read_blk2 (f : (main_arg2 : Ref sig .tc).ty.Contents (Elt F)) : ((cfg0.win 2).blk t0_0).view.read (Elt F) f = f := by
  funext i
  show f (((cfg0.win 2).blk t0_0).view.emb i) = f i
  refine congrArg f (funext fun a => Fin.ext ?_)
  refine (ValueKit.view_emb_slice_whole_unit_val main_arg2 _ _ _ i a).trans ?_
  fin_cases a <;> exact Nat.zero_add _
theorem read_blk3 (f : (main_v2 : Ref sig .tc).ty.Contents (Elt F)) : ((cfg0.win 3).blk t0_0).view.read (Elt F) f = f := by
  funext i
  show f (((cfg0.win 3).blk t0_0).view.emb i) = f i
  refine congrArg f (funext fun a => Fin.ext ?_)
  refine (ValueKit.view_emb_slice_whole_unit_val main_v2 _ _ _ i a).trans ?_
  fin_cases a <;> exact Nat.zero_add _
theorem read_blk4 (f : (main_v3 : Ref sig .tc).ty.Contents (Elt F)) : ((cfg0.win 4).blk t0_0).view.read (Elt F) f = f := by
  funext i
  show f (((cfg0.win 4).blk t0_0).view.emb i) = f i
  refine congrArg f (funext fun a => Fin.ext ?_)
  refine (ValueKit.view_emb_slice_whole_unit_val main_v3 _ _ _ i a).trans ?_
  fin_cases a <;> exact Nat.zero_add _

theorem before_0 (c : Dev nD) (d) : (dat0 m c).before 0 t0_0 d = V₁ m c main_arg0 := by
  unfold Dat.before; rw [if_pos (fetch0_0 _)]; exact read_blk0 (F := F) _
theorem before_1 (c : Dev nD) (d) : (dat0 m c).before 1 t0_0 d = V₁ m c main_arg1 := by
  unfold Dat.before; rw [if_pos (fetch0_1 _)]; exact read_blk1 (F := F) _
theorem before_2 (c : Dev nD) (d) : (dat0 m c).before 2 t0_0 d = V₁ m c main_arg2 := by
  unfold Dat.before; rw [if_pos (fetch0_2 _)]; exact read_blk2 (F := F) _
theorem before_3 (c : Dev nD) (d) : (dat0 m c).before 3 t0_0 d = Xm m 0 c := by
  unfold Dat.before; rw [if_pos (fetch0_3 _)]; exact read_blk3 (F := F) (V₁ m c main_v2)
theorem before_4 (c : Dev nD) (d) : (dat0 m c).before 4 t0_0 d = Xm m 1 c := by
  unfold Dat.before; rw [if_pos (fetch0_4 _)]; exact read_blk4 (F := F) (V₁ m c main_v3)

/-! ## The body's obligation -/

/-- Window `w`'s staging buffer. -/
abbrev stgOwn (c : Dev nD) (b : Ref sig .tc) (f : b.ty.Contents (Elt F)) : sProp 𝕄 := owns (c : Thread nD τ) (Memref.whole b) fullShare f

def bodyPre (c : Dev nD) : sProp 𝕄 :=
  iprop(Φ₀ m c ∗ (dat0 m c).owesAt () t0_0.castSucc
    ∗ (∃ d, stgOwn c cc0_stg0_0 ((dat0 m c).before (0 : Fin 6) t0_0 d)) ∗ (∃ d, stgOwn c cc0_stg1_0 ((dat0 m c).before (1 : Fin 6) t0_0 d))
    ∗ (∃ d, stgOwn c cc0_stg2_0 ((dat0 m c).before (2 : Fin 6) t0_0 d)) ∗ (∃ d, stgOwn c cc0_stg3_0 ((dat0 m c).before (3 : Fin 6) t0_0 d))
    ∗ (∃ d, stgOwn c cc0_stg4_0 ((dat0 m c).before (4 : Fin 6) t0_0 d)) ∗ (∃ d, stgOwn c cc0_stg5_0 ((dat0 m c).before (5 : Fin 6) t0_0 d)))
def bodyPost (c : Dev nD) : sProp 𝕄 :=
  iprop(Φ₁ c ∗ (dat0 m c).owesAt () t0_0.succ
    ∗ stgOwn c cc0_stg0_0 (V₁ m c main_arg0) ∗ stgOwn c cc0_stg1_0 (V₁ m c main_arg1)
    ∗ stgOwn c cc0_stg2_0 (V₁ m c main_arg2) ∗ stgOwn c cc0_stg3_0 (Xm m 0 c)
    ∗ stgOwn c cc0_stg4_0 (Xm m 1 c) ∗ stgOwn c cc0_stg5_0 (res m c))

theorem slots_of (d : Fin 2) (c : Dev nD) :
    iprop(slotsAny d c ∗ bigSep Finset.univ fun h : Fin 7 => reached ER (recvCell d h c) 0) ⊢ (slots d c : sProp 𝕄) := by
  unfold slotsAny slots; exact bigSep_pair

theorem body_run (c : Dev nD) : bodyPre m c ⊢ wp frame (wpE (defs₀ (F := F)) 𝒱₀ (c : Thread nD τ) none) Set.univ
        (cc0_body (F := F) (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6) (fun _ => bodyPost m c) := by
  unfold bodyPre Φ₀ Xk opened scr
  iintro ⟨⟨⟨⟨%K, Hbar, HS0, HS1, HR0, HR1, HrR0, HrR1⟩, #Hlev⟩, ⟨Hc0, Hc1, ⟨%f2, Hc2⟩⟩, Hp⟩, HO, ⟨%d0, H0⟩, ⟨%d1, H1⟩, ⟨%d2, H2⟩, ⟨%d3, H3⟩, ⟨%d4, H4⟩, ⟨%d5, H5⟩⟩
  rw [before_0, before_1, before_2, before_3, before_4]
  ihave HO' := (owesAt_in m c) $$ HO
  ihave Hs0 := (split0 c) $$ Hc0
  ihave Hs1 := (split1 c) $$ Hc1
  iapply (bodyRun (Xm m) K c (V₁ m c main_arg0) (V₁ m c main_arg1) (V₁ m c main_arg2) fun _ => bodyPost m c)
  isplitl [Hbar HS0 HS1 HR0 HR1 HrR0 HrR1 Hs0 Hs1 HO']
  · unfold kits
    isplitl [Hbar]; · iexact Hbar
    isplitl [Hs0 HrR0]
    · iapply (slots_of 0 c); isplitl [Hs0] <;> iassumption
    isplitl [Hs1 HrR1]
    · iapply (slots_of 1 c); isplitl [Hs1] <;> iassumption
    isplitl [HS0]; · iexact HS0
    isplitl [HS1]; · iexact HS1
    isplitl [HR0]; · iexact HR0
    isplitl [HR1]; · iexact HR1
    isplitr; · iexact Hlev
    iexact HO'
  isplitl [H0 H1 H2 H3 H4 Hc2]
  · unfold bufs
    rw [org_zero, org_zero]
    isplitl [H0]; · iexact H0
    isplitl [H1]; · iexact H1
    isplitl [H2]; · iexact H2
    isplitl [H3]; · iexact H3
    isplitl [H4]; · iexact H4
    iexists f2; rw [owns_whole]; iexact Hc2
  isplitl [H5]; · iexists _; iexact H5
  unfold dones bufs bodyPost Φ₁ Yk zeros scr
  rw [org_zero, org_zero]
  iintro ⟨⟨Hb, Hz0, Hz1, Hz2, Hz3, Hw0, Hw1, HO⟩, ⟨H0, H1, H2, H3, H4, ⟨%f2', Hc2⟩⟩, H5⟩
  ihave Hc0 := (join0 c fun h => Xm m 0 (org 0 (h.val + 1) c)) $$ Hw0
  ihave Hc1 := (join1 c fun h => Xm m 1 (org 1 (h.val + 1) c)) $$ Hw1
  isplitl [Hb Hz0 Hz1 Hz2 Hz3 Hc0 Hc1 Hc2 Hp]
  · isplitl [Hb]; · iexact Hb
    isplitl [Hz0 Hz1 Hz2 Hz3]
    · isplitl [Hz0]; · iexact Hz0
      isplitl [Hz1]; · iexact Hz1
      isplitl [Hz2] <;> iassumption
    isplitl [Hc0 Hc1 Hc2]
    · isplitl [Hc0]; · iexact Hc0
      isplitl [Hc1]; · iexact Hc1
      iexists f2'; rw [← owns_whole]; iexact Hc2
    iexact Hp
  isplitl [HO]; · iapply (owesAt_out m c); iexact HO
  isplitl [H0]; · iexact H0
  isplitl [H1]; · iexact H1
  isplitl [H2]; · iexact H2
  isplitl [H3]; · iexact H3
  isplitl [H4]; · iexact H4
  iexact H5

theorem body0 (c : Dev nD) : BodyObligation (dat0 m c) (defs₀ (F := F)) 𝒱₀ () Set.univ := fun t => by
  obtain rfl := fin_N0 t
  rw [bigSep_W0, bigSep_W0]
  exact body_run m c

end Cert.KernelIdeal.Hop

end
-- ==== Proof.Deal.lean ====
/-
  The accounts each device gets at launch, and how they make up what it enters the kernel with.
-/
module

public import proofs.«01_k».proof.Proof.Region

@[expose] public section

set_option maxRecDepth 16384

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-- A transfer cell by role, direction and hop; by direction and hop. -/
abbrev XK : Type := Fin 2 × Fin 2 × Fin 7
abbrev DH : Type := Fin 2 × Fin 7

theorem half (Φ : DH → sProp 𝕄) : bigSep Finset.univ Φ
    = iprop((bigSep Finset.univ fun h : Fin 7 => Φ (0, h)) ∗ bigSep Finset.univ fun h : Fin 7 => Φ (1, h)) := by
  rw [bigSep_univ_prod, bigSep_univ_two]
theorem quarter (Φ : XK → sProp 𝕄) : bigSep Finset.univ Φ
    = iprop(((bigSep Finset.univ fun h : Fin 7 => Φ (0, 0, h)) ∗ bigSep Finset.univ fun h : Fin 7 => Φ (0, 1, h))
      ∗ ((bigSep Finset.univ fun h : Fin 7 => Φ (1, 0, h)) ∗ bigSep Finset.univ fun h : Fin 7 => Φ (1, 1, h))) := by
  rw [bigSep_univ_prod, bigSep_univ_two, half, half]

/-! ## Cells and records -/

theorem xCell_inj {k k' : XK} {c c' : Dev nD} (h : xCell k c = xCell k' c') : k = k' ∧ c = c' :=
  ⟨osem_inj (congrArg Prod.snd h), congrArg (fun g : GSem nD τ sig => g.1.1) h⟩

def barEmb : Dev nD ↪ GSem nD τ sig := ⟨fun c => barCell c, fun _ _ h => congrArg (fun g : GSem nD τ sig => g.1.1) h⟩
def xEmb : Dev nD × XK ↪ GSem nD τ sig :=
  ⟨fun ck => xCell ck.2 ck.1, fun _ _ h => Prod.ext (xCell_inj h).2 (xCell_inj h).1⟩
abbrev barCells : Finset (GSem nD τ sig) := Finset.univ.map barEmb
abbrev xCells : Finset (GSem nD τ sig) := Finset.univ.map xEmb

theorem bar_ne_x (c c' : Dev nD) (k : XK) : barCell c ≠ xCell k c' := fun h => osem_ne_bar k (congrArg Prod.snd h).symm

theorem disjoint_cells : Disjoint (barCells : Finset (GSem nD τ sig)) xCells := by
  rw [Finset.disjoint_left]
  rintro g h₁ h₂
  obtain ⟨c, -, rfl⟩ := Finset.mem_map.mp h₁
  obtain ⟨ck, -, h⟩ := Finset.mem_map.mp h₂
  exact bar_ne_x c ck.1 ck.2 h.symm

theorem bar_mem (c : Dev nD) : barCell c ∈ (barCells ∪ xCells : Finset (GSem nD τ sig)) :=
  Finset.mem_union_left _ (Finset.mem_map_of_mem barEmb (Finset.mem_univ c))
theorem x_mem (k : XK) (c : Dev nD) : xCell k c ∈ (barCells ∪ xCells : Finset (GSem nD τ sig)) :=
  Finset.mem_union_right _ (Finset.mem_map_of_mem xEmb (Finset.mem_univ (c, k)))

/-- What every device may consult: the invariants of all cells, and that every barrier's round is reached. -/
def records (κ : GSem nD τ sig → ℕ) : sProp 𝕄 :=
  iprop((bigSep (barCells ∪ xCells) fun g => cellInv ER (Rd (Xm m)) (κ g) g) ∗ bigSep barCells fun g => reached ER g 0)
instance records_persistent (κ : GSem nD τ sig → ℕ) : BI.Persistent (records m κ) := by unfold records; infer_instance

theorem inv_of (κ : GSem nD τ sig → ℕ) {g : GSem nD τ sig} (hg : g ∈ (barCells ∪ xCells : Finset (GSem nD τ sig))) :
    records m κ ⊢ cellInv ER (Rd (Xm m)) (κ g) g := by
  unfold records
  iintro ⟨HI, -⟩
  iapply (show (bigSep (barCells ∪ xCells) fun g => (cellInv ER (Rd (Xm m)) (κ g) g : sProp 𝕄)) ⊢ cellInv ER (Rd (Xm m)) (κ g) g from bigSep_elim hg) $$ HI
theorem reached_of (κ : GSem nD τ sig → ℕ) (c : Dev nD) : records m κ ⊢ (reached ER (barCell c) 0 : sProp 𝕄) := by
  unfold records
  iintro ⟨-, HR⟩
  iapply (show (bigSep barCells fun g => (reached ER g 0 : sProp 𝕄)) ⊢ reached ER (barCell c) 0 from
    bigSep_elim (Finset.mem_map_of_mem barEmb (Finset.mem_univ c))) $$ HR

/-- The tokens of what device `c` pays by its copies: its send cell's and the receive cell's it lands on. -/
abbrev copyToks (c : Dev nD) (q : DH) : sProp 𝕄 :=
  iprop(dutyTok ER (sendCell q.1 q.2 c) 0 (0 : Fin 2) ∗ dutyTok ER (recvCell q.1 q.2 (nxt q.1 c)) 0 (0 : Fin 2))

/-- What stays with device `c`: its barrier's position, its rights to open its transfer cells, the tokens of what it pays. -/
def linear (c : Dev nD) : sProp 𝕄 :=
  iprop(atPos ER (barCell c) 0 ∅ 0 ∗ (bigSep Finset.univ fun k : XK => openTok ER (xCell k c))
    ∗ (dutyTok ER (barCell (org 0 1 c)) 0 (0 : Fin 2) ∗ dutyTok ER (barCell (org 1 1 c)) 0 (1 : Fin 2))
    ∗ bigSep Finset.univ (copyToks c))
/-- Its credits: two units at its barrier, a block at each receive cell. -/
def creds (c : Dev nD) : sProp 𝕄 :=
  iprop(cred (tallyAt (barCell c) () 2) ∗ bigSep Finset.univ fun q : DH => cred (tallyAt (recvCell q.1 q.2 c) () N))
def Tk (c : Dev nD) : sProp 𝕄 := iprop((∃ κ, records m κ ∗ linear c) ∗ creds c)

/-! ## Entering the kernel -/

theorem sendKits_of (κ : GSem nD τ sig → ℕ) (d : Fin 2) (c : Dev nD) :
    iprop(records m κ ∗ bigSep Finset.univ fun h : Fin 7 => iprop(iprop(atPos ER (sendCell d h c) 0 ∅ 0 ∗ reached ER (sendCell d h c) 0) ∗ copyToks c (d, h)))
      ⊢ bigSep Finset.univ fun h : Fin 7 => sendKit (Xm m) κ d h c :=
  bigSep_with_persistent fun h _ => by
    unfold sendKit
    iintro ⟨#HR, ⟨Ha, Hr⟩, H1, H2⟩
    isplitr; · iapply (inv_of m κ (x_mem (0, d, h) c)); iexact HR
    isplitr; · iapply (inv_of m κ (x_mem (1, d, h) (nxt d c))); iexact HR
    isplitl [Ha]; · iexact Ha
    isplitl [Hr]; · iexact Hr
    isplitl [H1] <;> iassumption

theorem recvKits_of (κ : GSem nD τ sig → ℕ) (d : Fin 2) (c : Dev nD) :
    iprop(records m κ ∗ bigSep Finset.univ fun h : Fin 7 => iprop(iprop(atPos ER (recvCell d h c) 0 ∅ 0 ∗ reached ER (recvCell d h c) 0) ∗ cred (tallyAt (recvCell d h c) () N)))
      ⊢ bigSep Finset.univ fun h : Fin 7 => iprop(recvKit (Xm m) κ d h c ∗ reached ER (recvCell d h c) 0) :=
  bigSep_with_persistent fun h _ => by
    unfold recvKit
    iintro ⟨#HR, ⟨Ha, Hr⟩, Hc⟩
    isplitr [Hr]
    · isplitr; · iapply (inv_of m κ (x_mem (1, d, h) c)); iexact HR
      isplitl [Ha] <;> iassumption
    iexact Hr

theorem barKit_of (κ : GSem nD τ sig → ℕ) (c : Dev nD) :
    iprop(records m κ ∗ atPos ER (barCell c) 0 ∅ 0 ∗ cred (tallyAt (barCell c) () 2)
        ∗ dutyTok ER (barCell (org 0 1 c)) 0 (0 : Fin 2) ∗ dutyTok ER (barCell (org 1 1 c)) 0 (1 : Fin 2))
      ⊢ barKit (Xm m) κ c := by
  unfold barKit
  iintro ⟨#HR, Ha, Hc, H0, H1⟩
  isplitr; · iapply (inv_of m κ (bar_mem c)); iexact HR
  isplitr; · iapply (inv_of m κ (bar_mem (org 0 1 c))); iexact HR
  isplitr; · iapply (inv_of m κ (bar_mem (org 1 1 c))); iexact HR
  isplitl [Ha]; · iexact Ha
  isplitl [Hc]; · iexact Hc
  isplitr; · iapply (reached_of m κ (org 0 1 c)); iexact HR
  isplitr; · iapply (reached_of m κ (org 1 1 c)); iexact HR
  isplitl [H0] <;> iassumption

theorem withInv (κ : GSem nD τ sig → ℕ) (c : Dev nD) :
    iprop(records m κ ∗ bigSep Finset.univ fun k : XK => openTok ER (xCell k c))
      ⊢ bigSep Finset.univ fun k : XK => iprop(cellInv ER (Rd (Xm m)) (κ (xCell k c)) (xCell k c) ∗ openTok ER (xCell k c)) :=
  bigSep_with_persistent fun k _ => by
    iintro ⟨#HR, Ho⟩
    isplitr; · iapply (inv_of m κ (x_mem k c)); iexact HR
    iexact Ho

theorem hopen (c : Dev nD) : iprop(Tk m c ∗ Pipeline.ownSems0 osem c ∗ levAts L lv) ⊢ (|={Set.univ}=> Xk m c : sProp 𝕄) := by
  unfold Tk Xk linear creds Pipeline.ownSems0
  iintro ⟨⟨⟨%κ, #HR, HaB, Ho, ⟨HtB0, HtB1⟩, Ht⟩, HcB, HcV⟩, Hsem, #Hlev⟩
  ihave Ho' := (withInv m κ c) $$ [Ho]
  · isplitr; · iexact HR
    iexact Ho
  imod (Rounds.cells_open ER (Rd (Xm m)) (Finset.univ : Finset XK) (fun k => xCell k c) (fun k => κ (xCell k c)) (Es := Set.univ) fun _ _ => Set.mem_univ _) $$ [Ho' Hsem] with HA
  · isplitl [Ho']; · iexact Ho'
    iexact Hsem
  ihave HA' := (Entails.of_eq (quarter (F := F) _)) $$ HA
  icases HA' with ⟨⟨HS0, HS1⟩, HR0, HR1⟩
  ihave Ht' := (Entails.of_eq (half (F := F) _)) $$ Ht
  icases Ht' with ⟨HT0, HT1⟩
  ihave HcV' := (Entails.of_eq (half (F := F) _)) $$ HcV
  icases HcV' with ⟨HC0, HC1⟩
  ihave HK0 := (recvKits_of m κ 0 c) $$ [HR0 HC0]
  · isplitr; · iexact HR
    iapply bigSep_pair; isplitl [HR0] <;> iassumption
  ihave HK1 := (recvKits_of m κ 1 c) $$ [HR1 HC1]
  · isplitr; · iexact HR
    iapply bigSep_pair; isplitl [HR1] <;> iassumption
  ihave HK0' := bigSep_unpair $$ HK0; icases HK0' with ⟨HK0, Hr0⟩
  ihave HK1' := bigSep_unpair $$ HK1; icases HK1' with ⟨HK1, Hr1⟩
  imodintro
  isplitr []
  · iexists κ; unfold opened
    isplitl [HaB HcB HtB0 HtB1]
    · iapply (barKit_of m κ c)
      isplitr; · iexact HR
      isplitl [HaB]; · iexact HaB
      isplitl [HcB]; · iexact HcB
      isplitl [HtB0] <;> iassumption
    isplitl [HS0 HT0]
    · iapply (sendKits_of m κ 0 c)
      isplitr; · iexact HR
      iapply bigSep_pair; isplitl [HS0] <;> iassumption
    isplitl [HS1 HT1]
    · iapply (sendKits_of m κ 1 c)
      isplitr; · iexact HR
      iapply bigSep_pair; isplitl [HS1] <;> iassumption
    isplitl [HK0]; · iexact HK0
    isplitl [HK1]; · iexact HK1
    isplitl [Hr0] <;> iassumption
  iexact Hlev

theorem held_none (c : Dev nD) (W : Valuation τ sig (Elt F)) : (StableHlo.held (c : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  show iprop(Pipeline.scopedRest spec0 c ∗ (∃ r, prngReg c r) ∗ StableHlo.held (c.tc : Thread nD τ) ∅ (V₁ m c) ∗ Xk m c) ⊢ Φ₀ m c
  rw [scopedRest0_eq, held_none]
  unfold Φ₀ scr
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk c) := by
  show Φ₁ c ⊢ iprop(Pipeline.scopedRest spec0 c ∗ (∃ r, prngReg c r) ∗ StableHlo.held (c.tc : Thread nD τ) ∅ (V₂ m c) ∗ Pipeline.ownSems0 osem c ∗ Yk c)
  rw [scopedRest0_eq, held_none]
  unfold Φ₁ scr zeros Pipeline.ownSems0
  rw [quarter]
  iintro ⟨HY, ⟨H0, H1, H2, H3⟩, Hs, Hp⟩
  isplitl [Hs]; · iexact Hs
  isplitl [Hp]; · iexact Hp
  isplitr; · iempintro
  isplitl [H0 H1 H2 H3]
  · isplitl [H0 H1]
    · isplitl [H0] <;> iassumption
    · isplitl [H2] <;> iassumption
  iexact HY

/-! ## Credits -/

theorem owed_at (d c : Dev nD) (e : Fin 2) (h : Fin 7) : ∀ k, k ≤ 14 →
    owed d k (recvCell e h c) () = if d = org e 1 c ∧ 14 - k ≤ 2 * h.val + e.val then N else 0 := by
  intro k
  induction k with
  | zero => intro _; rw [if_neg (fun hh => by have := h.isLt; have := e.isLt; omega)]; rfl
  | succ k ih =>
    intro hk
    rw [owed, Pi.add_apply, Finsupp.add_apply, tallyAt_apply, ih (by omega)]
    have hm : (recvCell e h c = recvCell (stepD (13 - k)) (stepH (13 - k)) (nxt (stepD (13 - k)) d) ∧ () = ())
        ↔ (d = org e 1 c ∧ 13 - k = 2 * h.val + e.val) := by
      constructor
      · rintro ⟨hh, -⟩
        obtain ⟨hk', hc⟩ := xCell_inj hh
        have h1 : e = stepD (13 - k) := congrArg (fun x : XK => x.2.1) hk'
        have h2 : h = stepH (13 - k) := congrArg (fun x : XK => x.2.2) hk'
        refine ⟨by rw [hc, ← h1, org_nxt], ?_⟩
        have h1' : e.val = (13 - k) % 2 := congrArg Fin.val h1
        have h2' : h.val = (13 - k) / 2 % 7 := congrArg Fin.val h2
        omega
      · rintro ⟨hd, hs⟩
        have hD : stepD (13 - k) = e := Fin.ext (by show (13 - k) % 2 = _; have := e.isLt; omega)
        have hH : stepH (13 - k) = h := Fin.ext (by show (13 - k) / 2 % 7 = _; have := e.isLt; have := h.isLt; omega)
        rw [hD, hH, hd, nxt_org]; exact ⟨rfl, rfl⟩
    rw [if_congr hm rfl rfl]
    by_cases hd : d = org e 1 c
    · by_cases hs : 13 - k = 2 * h.val + e.val
      · rw [if_neg (fun hh => by omega), if_pos ⟨hd, hs⟩, if_pos ⟨hd, by omega⟩, Nat.zero_add]
      · rw [if_neg (c := d = org e 1 c ∧ 13 - k = _) (fun hh => hs hh.2), Nat.add_zero]
        exact if_congr (and_congr_right fun _ => by omega) rfl rfl
    · rw [if_neg (fun hh => hd hh.1), if_neg (fun hh => hd hh.1), if_neg (fun hh => hd hh.1)]

theorem owed_bar (d c : Dev nD) : owed d 14 (barCell c) () = 0 := by
  by_contra h
  obtain ⟨e, h, hh, -⟩ := owed_spec d 14 le_rfl (barCell c) () (Nat.pos_of_ne_zero h)
  exact bar_ne_x _ _ _ hh

theorem bar_iff (e : Fin 2) (d c : Dev nD) : (barCell c = barCell (org e 1 d) ∧ () = ()) ↔ d = nxt e c :=
  ⟨fun h => by
      have h' : c = org e 1 d := congrArg (fun g : GSem nD τ sig => g.1.1) h.1
      rw [h', nxt_org],
    fun h => by subst h; exact ⟨by rw [org_nxt], rfl⟩⟩

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same]
  have e (d : Dev nD) : O₀ d (barCell c) () = (if d = nxt 1 c then 1 else 0) + if d = nxt 0 c then 1 else 0 := by
    unfold O₀
    rw [Pi.add_apply, Finsupp.add_apply, Pi.add_apply, Finsupp.add_apply, owed_bar, tallyAt_apply, tallyAt_apply, Nat.zero_add,
      if_congr (bar_iff 1 d c) rfl rfl, if_congr (bar_iff 0 d c) rfl rfl]
  rw [Finset.sum_congr rfl fun d _ => e d, Finset.sum_add_distrib, Finset.sum_ite_eq', Finset.sum_ite_eq', if_pos (Finset.mem_univ _), if_pos (Finset.mem_univ _)]

theorem launch_recv (c : Dev nD) (q : DH) :
    tallyOn (recvCell q.1 q.2 c) (launchCredit (Pipeline.owing O₀) 0 (recvCell q.1 q.2 c)) = (tallyAt (recvCell q.1 q.2 c) () N : CellTallies nD τ sig Unit) := by
  unfold tallyAt; refine congrArg _ (Finsupp.ext fun u => ?_); cases u
  rw [Pipeline.launchCredit_owing, Finsupp.single_eq_same]
  have e (d : Dev nD) : O₀ d (recvCell q.1 q.2 c) () = if d = org q.1 1 c then N else 0 := by
    unfold O₀
    rw [Pi.add_apply, Finsupp.add_apply, Pi.add_apply, Finsupp.add_apply, owed_at d c q.1 q.2 14 le_rfl, tallyAt_ne_cell (bar_ne_x _ _ _).symm,
      tallyAt_ne_cell (bar_ne_x _ _ _).symm, Finsupp.zero_apply, Nat.add_zero, Nat.add_zero]
    exact if_congr ⟨fun h => h.1, fun h => ⟨h, by omega⟩⟩ rfl rfl
  rw [Finset.sum_congr rfl fun d _ => e d, Finset.sum_ite_eq', if_pos (Finset.mem_univ _)]

def recvEmb : DH ↪ SemLoc sig := ⟨fun q => osem (1, q.1, q.2), fun a b h => by
  have := osem_inj h
  exact congrArg (fun x : XK => x.2) this⟩

theorem creds_of (c : Dev nD) : (Pipeline.launchCred O₀ c : sProp 𝕄) ⊢ creds c := by
  unfold Pipeline.launchCred creds
  rw [bigSep_univ_at _ (SemLoc.reg barS), launch_bar]
  refine sep_mono_right ?_
  refine Entails.trans (show (bigSep (Finset.univ.erase (SemLoc.reg barS)) fun sm => (cred (tallyOn ((c.tc : Thread nD τ), sm) (launchCredit (Pipeline.owing O₀) 0 ((c.tc : Thread nD τ), sm))) : sProp 𝕄)) ⊢ _ from bigSep_subset (t := Finset.univ.map recvEmb) fun s hs => ?_) (Entails.of_eq ?_)
  · obtain ⟨q, -, rfl⟩ := Finset.mem_map.mp hs
    exact Finset.mem_erase.mpr ⟨osem_ne_bar _, Finset.mem_univ _⟩
  · rw [BI.bigSep_map]
    exact bigSep_congr fun q _ => by rw [← launch_recv c q]; rfl

end Cert.KernelIdeal.Hop

end
-- ==== Proof.Launch.lean ====
/-
  @main as host lines around the kernel's region, the launch, and the run: every device's result and that all counters end at zero.
-/
module

public import proofs.«01_k».proof.Proof.Deal
public import Idealize.ShloMosaic.Lib.Quiescent

@[expose] public section

set_option maxRecDepth 16384

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation cellOf)
open Cert.KernelIdeal.Gen

variable {F : FTy → Type} [FloatOps F]

local notation "𝕄" => MT nD τ sig Unit (Elt F) ℕ UU ℕ
local notation "ℍ" => Pipeline.HostSeg (Name := ℕ) (U := UU) (pcfgs (F := F)) defs₀ 𝒱₀ L lv

variable (m : (ℓ : Loc nD τ sig) → Buf (Elt F) ℓ) (ρ : Dev nD → PrngReg)

local notation "ℝ𝕊" => Pipeline.RegionSeg (pcfgs (F := F)) adm (pdats m) () defs₀ 𝒱₀ L lv

/-! ## The segments -/

/-- The unscoped buffers; those that are no window's array. -/
abbrev uc : Finset (DevRef τ sig) := Pipeline.ucRefs τ sig
abbrev others : Finset (DevRef τ sig) := uc \ Pipeline.arrRefs (τ := τ) spec0

/-- What rides beside the buffers before the region, and behind it. -/
def R₀ (c : Dev nD) : sProp 𝕄 := iprop(Tk m c ∗ (∃ r, prngReg c r) ∗ ∃ W, owes (c : Thread nD τ) (O₀ c) W)
def R₁ (c : Dev nD) : sProp 𝕄 := iprop(semVal (barCell c) 0 ∗ ∃ W, owes (c : Thread nD τ) (0 : CellTallies nD τ sig Unit) W)

theorem ops0_sub : ∀ op ∈ (hostOps0 : List (HloOp τ sig (Elt F))), op.bufs ⊆ uc := fun op h =>
  Pipeline.sub_ucRefs op ((List.forall_iff_forall_mem.mp hostOps0_sub) op h)
theorem ops1_sub : ∀ op ∈ (hostOps1 : List (HloOp τ sig (Elt F))), op.bufs ⊆ uc := fun op h =>
  Pipeline.sub_ucRefs op ((List.forall_iff_forall_mem.mp hostOps1_sub) op h)

def seg0 : ℍ := Pipeline.HostSeg.ofOps _ _ _ _ _ uc hostOps0 ops0_sub (List.forall_iff_forall_mem.mp hostOps0_fresh) (V₀ m) (R₀ m)
def seg1 : ℍ := Pipeline.HostSeg.ofOps _ _ _ _ _ uc hostOps1 ops1_sub (List.forall_iff_forall_mem.mp hostOps1_fresh) (V₂ m) R₁

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem lv_stage (c : Dev nD) (w : Fin 6) (s : Fin (spec0 w).nbuf) : lv ((c : Thread nD τ), .dma ((spec0 w).sem s)) () = 0 := by
  show semLv (.dma ((spec0 w).sem s)) = 0
  fin_cases w <;> (fin_cases s; rfl)

theorem O₀_at (c : Dev nD) (g : GSem nD τ sig) (u : Unit) (h : 0 < O₀ c g u) : u ∈ L g ∧ 0 < lv g u := by
  unfold O₀ at h
  rw [Pi.add_apply, Finsupp.add_apply, Pi.add_apply, Finsupp.add_apply, tallyAt_apply, tallyAt_apply] at h
  by_cases h1 : g = barCell (org 1 1 c) ∧ u = ()
  · rw [h1.1, L_tc]; exact ⟨Finset.mem_singleton_self _, by show 0 < semLv (.reg barS); decide⟩
  by_cases h2 : g = barCell (org 0 1 c) ∧ u = ()
  · rw [h2.1, L_tc]; exact ⟨Finset.mem_singleton_self _, by show 0 < semLv (.reg barS); decide⟩
  rw [if_neg h1, if_neg h2, Nat.add_zero] at h
  obtain ⟨d, k, rfl, -⟩ := owed_spec c 14 le_rfl g u h
  rw [L_tc]; exact ⟨Finset.mem_singleton_self _, by rw [lv_recv]; omega⟩

theorem cut : Pipeline.LevelCutOwed (pcfgs (F := F)) adm (pdats m) () L lv 0 (fun _ => 0) where
  hι c w s := by rw [L_tc]; exact Finset.mem_singleton_self _
  hιb c w s := le_of_eq (lv_stage c w s)
  hD c t g i h := by
    have e : (pdats m 0 c).owed t = O₀ c ∨ (pdats m 0 c).owed t = 0 := by
      obtain ⟨t, ht⟩ := t
      cases t with
      | zero => exact .inl rfl
      | succ t => exact .inr rfl
    rcases e with e | e
    · rw [e] at h; exact O₀_at c g i h
    · rw [e] at h; exact absurd h (Nat.lt_irrefl 0)

theorem V₂_ne (c : Dev nD) (b : Ref sig .tc) (h : (Proc.devRef .tc b : DevRef τ sig) ≠ Proc.devRef .tc main_v4) : V₂ m c (Proc.devRef .tc b) = V₁ m c (Proc.devRef .tc b) :=
  Function.update_of_ne h _ _
theorem V₂_v4 (c : Dev nD) : V₂ m c main_v4 = res m c := Function.update_self (Proc.devRef .tc main_v4) (res m c) (V₁ m c)

theorem arr_end (c : Dev nD) (w : Fin 6) : (pdats m 0 c).arrAt w (Pipeline.pin (pcfgs (F := F)) adm 0).N = V₂ m c (Proc.devRef .tc (Pipeline.arrRef spec0 w)) := by
  show (dat0 m c).arrAt w cfg0.N = _
  fin_cases w
  · exact ((dat0 m c).arrAt_in 0 rfl _).trans (V₂_ne m c main_arg0 (by decide)).symm
  · exact ((dat0 m c).arrAt_in 1 rfl _).trans (V₂_ne m c main_arg1 (by decide)).symm
  · exact ((dat0 m c).arrAt_in 2 rfl _).trans (V₂_ne m c main_arg2 (by decide)).symm
  · exact ((dat0 m c).arrAt_in 3 rfl _).trans (V₂_ne m c main_v2 (by decide)).symm
  · exact ((dat0 m c).arrAt_in 4 rfl _).trans (V₂_ne m c main_v3 (by decide)).symm
  · refine ((dat0 m c).arrAt_eq_of_after_last 5 t0_0 (by decide +kernel) (res m c) fun j => rfl).trans ?_
    exact (V₂_v4 m c).symm

theorem V₂_others (c : Dev nD) (b : DevRef τ sig) (hb : b ∈ others \ ∅) : V₂ m c b = V₁ m c b := by
  refine Function.update_of_ne (fun h => ?_) _ _
  subst h
  exact absurd hb (by decide)

set_option backward.isDefEq.respectTransparency.types false in
def reg0 : ℝ𝕊 0 :=
  Pipeline.RegionSeg.ofTalk (pcfgs (F := F)) adm (pdats m) () defs₀ 𝒱₀ L lv 0 osem (by decide : Pipeline.OwnSemFacts spec0 osem)
    ∅ others (Finset.empty_subset _) kit rfl (fun c => (body0 m c).loose)
    (fun _ => 0) O₀ (fun c => (zero_add _).symm) (fun _ => rfl) (fun _ => rfl) (fun c w => by unfold Dat.share; split <;> rfl)
    (V₁ m) (V₂ m) (fun c b hb => V₂_others m c b hb)
    (Tk m) Yk (Xk m) Yk (hopen m) (hin m) (hout m)
    (fun c => by iintro H; imodintro; iexact H)
    (fun _ => 0) (cut m) (fun _ => iprop(emp))
    (fun c w => by fin_cases w <;> rfl) (arr_end m)

/-- @main as the list. -/
def segs : List (Pipeline.Seg (pcfgs (F := F)) adm (pdats m) () defs₀ 𝒱₀ L lv) := [.host (seg0 m), .region (reg0 m), .host (seg1 m)]
theorem main_eq (c : Dev nD) : main (F := F) c = Pipeline.Seg.run (segs m) :=
  main_segs adm (pdats m) () 𝒱₀ L lv (seg0 m) (seg1 m) (reg0 m) rfl rfl c

theorem held_uc (c : Dev nD) (W : Valuation τ sig (Elt F)) : (StableHlo.held (c : Thread nD τ) uc W : sProp 𝕄)
    = iprop(StableHlo.held (c : Thread nD τ) (Pipeline.arrRefs (τ := τ) spec0) W ∗ StableHlo.held (c : Thread nD τ) others W) :=
  StableHlo.held_sub_split (c : Thread nD τ) (Pipeline.arrRefs_sub_ucRefs spec0 winFacts0.arr_unscoped) W

theorem reg0_pre (c : Dev nD) : iprop(StableHlo.held (c : Thread nD τ) uc (V₁ m c) ∗ R₀ m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) others (V₁ m c) ∗ emp) ∗ Tk m c ∗ ∃ Wd, owes (c : Thread nD τ) (0 + O₀ c) Wd)
  rw [held_uc, zero_add]
  unfold R₀
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem reg0_post (c : Dev nD) : (reg0 m).post c ⊢ iprop(StableHlo.held (c : Thread nD τ) uc (V₂ m c) ∗ R₁ c) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  rw [held_uc]
  unfold R₁ Yk
  iintro ⟨Ha, -, ⟨Ho, -⟩, Hb, HO⟩
  isplitl [Ha Ho]; · isplitl [Ha] <;> iassumption
  isplitl [Hb]; · iexact Hb
  iexact HO

/-! ## The launch -/

/-- A device's duties: the two of its barrier, the one of each transfer cell. -/
abbrev tokOf : Dev nD × (Fin 2 ⊕ XK) → GSem nD τ sig × ℕ × Fin 2
  | (c, .inl d) => (barCell c, 0, d)
  | (c, .inr k) => (xCell k c, 0, 0)
theorem tokOf_inj : Function.Injective tokOf := by
  rintro ⟨c, d | k⟩ ⟨c', d' | k'⟩ h
  · have h1 : c = c' := congrArg (fun t : GSem nD τ sig × ℕ × Fin 2 => t.1.1.1) h
    have h2 : d = d' := congrArg (fun t : GSem nD τ sig × ℕ × Fin 2 => t.2.2) h
    rw [h1, h2]
  · exact absurd (congrArg Prod.fst h) (bar_ne_x _ _ _)
  · exact absurd (congrArg Prod.fst h).symm (bar_ne_x _ _ _)
  · obtain ⟨h1, h2⟩ := xCell_inj (congrArg Prod.fst h)
    rw [h1, h2]
def allToks : Finset (GSem nD τ sig × ℕ × Fin 2) := Finset.univ.map ⟨tokOf, tokOf_inj⟩

/-- The launch element: the staging pipeline's, and this protocol's. -/
def u₀ : UU :=
  (initOf (Pipeline.cells (Pipeline.pin (pcfgs (F := F)) adm) cellOf_inj) (Pipeline.launchToks (Pipeline.pin (pcfgs (F := F)) adm) cellOf_inj),
    launchOf barCells xCells allToks)

/-- The protocol's whole launch element, kept on device 0 until the cells are funded together. -/
def G (c : Dev nD) : sProp 𝕄 := if c = 0 then BI.own (ER (launchOf barCells xCells allToks)) else iprop(emp)
theorem bigSep_G : (bigSep Finset.univ (G (F := F)) : sProp 𝕄) = BI.own (ER (launchOf barCells xCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- A device's own duties' tokens. -/
def toks (c : Dev nD) : sProp 𝕄 :=
  iprop((dutyTok ER (barCell c) 0 (0 : Fin 2) ∗ dutyTok ER (barCell c) 0 (1 : Fin 2)) ∗ bigSep Finset.univ fun k : XK => dutyTok ER (xCell k c) 0 (0 : Fin 2))
theorem toks_eq : bigSep allToks (fun x => (dutyTok ER x.1 x.2.1 x.2.2 : sProp 𝕄)) = bigSep Finset.univ fun c : Dev nD => toks c := by
  unfold allToks; rw [bigSep_map, bigSep_univ_prod]
  exact bigSep_congr fun c _ => by
    unfold toks; rw [bigSep_univ_sum, bigSep_univ_two]; rfl

/-- A family over the devices, each taking its neighbour's. -/
theorem from_org (d : Fin 2) (Φ : Dev nD → sProp 𝕄) : bigSep Finset.univ Φ = bigSep Finset.univ fun c => Φ (org d 1 c) :=
  bigSep_univ_equiv (ringE d).symm Φ
theorem from_nxt (d : Fin 2) (Φ : Dev nD → sProp 𝕄) : bigSep Finset.univ Φ = bigSep Finset.univ fun c => Φ (nxt d c) :=
  bigSep_univ_equiv (ringE d) Φ

/-- Every token with the device that pays the duty. -/
theorem toks_around : (bigSep Finset.univ fun c : Dev nD => (toks c : sProp 𝕄))
    = bigSep Finset.univ fun c : Dev nD => iprop((dutyTok ER (barCell (org 0 1 c)) 0 (0 : Fin 2) ∗ dutyTok ER (barCell (org 1 1 c)) 0 (1 : Fin 2))
      ∗ bigSep Finset.univ (copyToks c)) := by
  have e (c : Dev nD) : (bigSep Finset.univ fun k : XK => (dutyTok ER (xCell k c) 0 (0 : Fin 2) : sProp 𝕄))
      = iprop((bigSep Finset.univ fun q : DH => dutyTok ER (sendCell q.1 q.2 c) 0 (0 : Fin 2))
        ∗ ((bigSep Finset.univ fun h : Fin 7 => dutyTok ER (recvCell 0 h c) 0 (0 : Fin 2)) ∗ bigSep Finset.univ fun h : Fin 7 => dutyTok ER (recvCell 1 h c) 0 (0 : Fin 2))) := by
    rw [quarter, half]
  have e' (c : Dev nD) : (bigSep Finset.univ (copyToks (F := F) c) : sProp 𝕄)
      = iprop((bigSep Finset.univ fun q : DH => dutyTok ER (sendCell q.1 q.2 c) 0 (0 : Fin 2))
        ∗ ((bigSep Finset.univ fun h : Fin 7 => dutyTok ER (recvCell 0 h (nxt 0 c)) 0 (0 : Fin 2)) ∗ bigSep Finset.univ fun h : Fin 7 => dutyTok ER (recvCell 1 h (nxt 1 c)) 0 (0 : Fin 2))) := by
    unfold copyToks
    rw [bigSep_sep', half (fun q => dutyTok ER (recvCell q.1 q.2 (nxt q.1 c)) 0 (0 : Fin 2))]
  unfold toks
  simp only [e, e', bigSep_sep']
  rw [from_org 0 (fun c => dutyTok ER (barCell c) 0 (0 : Fin 2)), from_org 1 (fun c => dutyTok ER (barCell c) 0 (1 : Fin 2)),
    from_nxt 0 (fun c => bigSep Finset.univ fun h : Fin 7 => dutyTok ER (recvCell 0 h c) 0 (0 : Fin 2)),
    from_nxt 1 (fun c => bigSep Finset.univ fun h : Fin 7 => dutyTok ER (recvCell 1 h c) 0 (0 : Fin 2))]

theorem unscoped_eq : ∀ sm : SemLoc sig, sm.isScoped .tc = false → sm = .reg barS := by decide
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev T₀ (c : Dev nD) : sProp 𝕄 := iprop(StableHlo.held (c : Thread nD τ) uc (V₀ m c) ∗ R₀ m c)
def Tₙ (c : Dev nD) : sProp 𝕄 := iprop(StableHlo.held (c : Thread nD τ) uc (V₃ m c) ∗ semVal (barCell c) 0)

/-- What a core holds at launch beside the protocol's accounts. -/
def bundle (c : Dev nD) : sProp 𝕄 :=
  iprop(StableHlo.held (c : Thread nD τ) uc (V₀ m c) ∗ creds c ∗ owes (c : Thread nD τ) (O₀ c) ∅ ∗ ∃ r, prngReg c r)

theorem T₀_of (κ : GSem nD τ sig → ℕ) (c : Dev nD) : iprop(records m κ ∗ (linear c ∗ bundle m c)) ⊢ T₀ m c := by
  unfold bundle T₀ R₀ Tk
  iintro ⟨#HR, Hl, Hh, Hc, HO, Hp⟩
  isplitl [Hh]; · iexact Hh
  isplitl [Hl Hc]
  · isplitl [Hl]
    · iexists κ; isplitr; · iexact HR
      iexact Hl
    iexact Hc
  isplitl [Hp]; · iexact Hp
  iexists ∅; iexact HO

theorem core_of (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) uc (V₀ m c) from Pipeline.unscopedBufs_held c (V₀ m c),
    unscopedSems0_eq]
  unfold bundle
  iintro ⟨Hh, Hus, HO, Hcr, Hp, HG⟩
  ihave Hc := (creds_of (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem init : iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep xCells (fun g => (openTok ER g : sProp 𝕄)) ⊢ bigSep Finset.univ (fun c : Dev nD => bigSep Finset.univ fun k : XK => openTok ER (xCell k c)) :=
    Entails.of_eq (by rw [bigSep_map, bigSep_univ_prod]; rfl)
  iintro ⟨H, -⟩
  ihave H' := (bigSep_le (F := F) (s := (Finset.univ : Finset (Dev nD))) fun c => core_of m ρ c) $$ H
  ihave H2 := bigSep_unpair $$ H'; icases H2 with ⟨HB, H3⟩
  ihave H4 := bigSep_unpair $$ H3; icases H4 with ⟨Hv, HG⟩
  ihave Hu := (Entails.of_eq (bigSep_G (F := F))) $$ HG
  imod (Rounds.fund_launch ER (Rd (Xm m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_of m κ c)
  isplitr
  · unfold records
    isplitr; · iexact Hinv
    iexact Hr
  iapply bigSep_pair
  isplitr [HB]
  · unfold linear
    iapply bigSep_pair; isplitl [Hat]; · iapply hat $$ Hat
    iapply bigSep_pair; isplitl [Hopen]; · iapply hop $$ Hopen
    iapply (Entails.of_eq (toks_around (F := F)))
    iapply (Entails.of_eq (toks_eq (F := F))) $$ Htok
  · iexact HB

/-! ## The run -/

theorem V₁_arg (c : Dev nD) (b : Ref sig .tc) (h1 : b ≠ main_v1) (h2 : b ≠ main_v2) (h3 : b ≠ main_v3) : V₁ m c b = m ((c : Thread nD τ).loc b) := by
  show StableHlo.after hostOps0 (V₀ m c) (Proc.devRef .tc b) = _
  rw [StableHlo.after_cons, StableHlo.after_cons, StableHlo.after_cons, StableHlo.after_nil, StableHlo.unary_result_ne _ _ _ _ _ _ h3,
    StableHlo.unary_result_ne _ _ _ _ _ _ h2]
  exact StableHlo.reshape_result_ne _ _ _ _ _ _ _ h1

/-- What device `c`'s result is. -/
def final (c : Dev nD) : S2048x1024.Idx → Elt F .f32 := extf .f32 (res m c) bitsLt_bf16_f32

theorem V₃_v5 (c : Dev nD) : V₃ m c main_v5 = final m c := by
  show StableHlo.after hostOps1 (V₂ m c) (Proc.devRef .tc main_v5) = _
  rw [StableHlo.after_cons, StableHlo.after_nil, StableHlo.unary_result, V₂_v4]; rfl

theorem V₃_arg (c : Dev nD) (b : Ref sig .tc) (h5 : b ≠ main_v5) (h4 : (Proc.devRef .tc b : DevRef τ sig) ≠ Proc.devRef .tc main_v4)
    (h1 : b ≠ main_v1) (h2 : b ≠ main_v2) (h3 : b ≠ main_v3) : V₃ m c b = m ((c : Thread nD τ).loc b) := by
  show StableHlo.after hostOps1 (V₂ m c) (Proc.devRef .tc b) = _
  rw [StableHlo.after_cons, StableHlo.after_nil, StableHlo.unary_result_ne _ _ _ _ _ _ h5, V₂_ne m c b h4, V₁_arg m c b h1 h2 h3]

/-- The buffers the claims read. -/
abbrev seen : Finset (DevRef τ sig) :=
  {Proc.devRef .tc main_arg0, Proc.devRef .tc main_arg1, Proc.devRef .tc main_arg2, Proc.devRef .tc main_arg3, Proc.devRef .tc main_v5}
abbrev pt (c : Dev nD) (b : Ref sig .tc) (f : b.ty.Contents (Elt F)) : sProp 𝕄 := ((c : Thread nD τ).loc b) ↦{fullShare} f
theorem held_seen (c : Dev nD) (W : Valuation τ sig (Elt F)) : (StableHlo.held (c : Thread nD τ) seen W : sProp 𝕄)
    = iprop(pt c main_arg0 (W main_arg0) ∗ pt c main_arg1 (W main_arg1) ∗ pt c main_arg2 (W main_arg2) ∗ pt c main_arg3 (W main_arg3) ∗ pt c main_v5 (W main_v5)) := by
  unfold StableHlo.held
  rw [bigSep_eq_bigSepL_of_eq [Proc.devRef .tc main_arg0, Proc.devRef .tc main_arg1, Proc.devRef .tc main_arg2, Proc.devRef .tc main_arg3, Proc.devRef .tc main_v5]
    (by decide) (by decide)]
  rfl
theorem seen_sub : seen ⊆ uc := by decide

set_option backward.isDefEq.respectTransparency.types false in
/-- THE RUN: from any memory with zero counters every weakly fair execution of @main on the eight devices ends, the arguments
    as they were, each result `final`, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_v5) = final m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := by
      refine ⟨fun c => .rfl, fun c => reg0_pre m c, fun c => reg0_post m c, fun c => ?_⟩
      show iprop(StableHlo.held (c : Thread nD τ) uc (V₃ m c) ∗ R₁ c) ⊢ iprop(Tₙ m c ∗ ∃ W, owes (c : Thread nD τ) (0 : CellTallies nD τ sig Unit) W)
      unfold Tₙ R₁
      iintro ⟨Hh, Hb, HO⟩
      isplitr [HO]
      · isplitl [Hh] <;> iassumption
      · iexact HO)
    (hinit := init m ρ)
    (QY := fun c s => (s.mem ((c : Thread nD τ).loc main_arg0) = V₃ m c main_arg0 ∧ s.mem ((c : Thread nD τ).loc main_arg1) = V₃ m c main_arg1
        ∧ s.mem ((c : Thread nD τ).loc main_arg2) = V₃ m c main_arg2 ∧ s.mem ((c : Thread nD τ).loc main_arg3) = V₃ m c main_arg3
        ∧ s.mem ((c : Thread nD τ).loc main_v5) = V₃ m c main_v5) ∧ s.sem (barCell c) = 0)
    (hfin := fun c s' => by
      unfold Tₙ
      rw [StableHlo.held_sub_split (c : Thread nD τ) seen_sub, held_seen]
      iintro ⟨⟨⟨⟨H0, H1, H2, H3, H5⟩, -⟩, Hb0⟩, HSI⟩
      icombine HSI H0 gives %h0
      icombine HSI H1 gives %h1
      icombine HSI H2 gives %h2
      icombine HSI H3 gives %h3
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h5⟩, by simpa using hb⟩
      iexact HSI)
    (hQ := fun s h hs => ⟨fun c => by
        obtain ⟨⟨h0, h1, h2, h3, h5⟩, -⟩ := h c
        exact ⟨h0.trans (V₃_arg m c main_arg0 (by decide) (by decide) (by decide) (by decide) (by decide)),
          h1.trans (V₃_arg m c main_arg1 (by decide) (by decide) (by decide) (by decide) (by decide)),
          h2.trans (V₃_arg m c main_arg2 (by decide) (by decide) (by decide) (by decide) (by decide)),
          h3.trans (V₃_arg m c main_arg3 (by decide) (by decide) (by decide) (by decide) (by decide)),
          h5.trans (V₃_v5 m c)⟩,
      sem_eq_zero hs fun c sm hsm => by
        obtain rfl := unscoped_eq sm hsm
        exact (h c).2⟩)

end Cert.KernelIdeal.Hop

end
-- ==== Proof.Frames.lean ====
/- The frames: the kernel's run with its values dropped, read at the Bits and at the Ideal instance, and the reference's. -/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.KernelIdeal.Hop

open Idealize.ShloMosaic Idealize.SL.Sem

/-- The program as printed is the idealized one's text, body table by body table. -/
theorem same_defs₀ : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))
theorem same_defs : @Cert.Kernel.defs Bits _ Cert.Kernel.Gen.facts = @Cert.KernelIdeal.defs Bits _ Cert.KernelIdeal.Gen.facts := by
  unfold Cert.Kernel.defs Cert.KernelIdeal.defs
  rw [same_defs₀]; rfl

/-- So its frame is the run's, with the value forgotten. -/
theorem frame_kernel : Cert.quiescent_Kernel (hKernel := Cert.Kernel.Gen.facts) := fun m ρ _ => by
  rw [same_defs]
  exact (θ_run Cert.KernelIdeal.defs _ _).mono
    (fun _ h => ⟨fun c => ⟨(h.1 c).1, (h.1 c).2.1, (h.1 c).2.2.1, (h.1 c).2.2.2.1⟩, h.2⟩) (run_main (F := Bits) m ρ)

theorem frame_ideal : Cert.quiescent_KernelIdeal (hKernelIdeal := Cert.KernelIdeal.Gen.facts) := fun m ρ _ =>
  (θ_run Cert.KernelIdeal.defs _ _).mono
    (fun _ h => ⟨fun c => ⟨(h.1 c).1, (h.1 c).2.1, (h.1 c).2.2.1, (h.1 c).2.2.2.1⟩, h.2⟩) (run_main (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdeal.Hop

end
-- ==== Proof.Pre.lean ====
/-
  The precondition: what its test of one device's blocks says of them, tokens and router finite and expert numbers from 0 to 31.
-/
module

public import proofs.«01_k».proof.Defs
public import Idealize.ShloMosaic.Lib.ReduceAll
public import Idealize.ShloMosaic.Lib.WordCmp
public import Idealize.ShloMosaic.Lib.Pointwise

@[expose] public section

set_option maxRecDepth 16384

noncomputable section

namespace Cert.Moe

open Idealize.ShloMosaic

theorem pre_facts : Cert.Pre_finite_and_in_range_KernelIdeal.Facts :=
  ⟨by decide, by decide, by decide, by decide, by decide, by decide, by decide, by decide⟩

theorem pre_facts_whole : Cert.Pre_finite_and_in_range_ReferenceIdeal.Facts :=
  ⟨by decide, by decide, by decide, by decide, by decide, by decide, by decide, by decide⟩

/-- A number whose absolute value is below infinity is real. -/
theorem real_of_test (v : EReal) (h : Ideal.cmp .olt (max v (-v)) (Ideal.ofBits .f32 0x7F800000#32) = 1#1) : ∃ r : ℝ, v = r := by
  have htop : Ideal.ofBits .f32 0x7F800000#32 = ⊤ := by simp [Ideal.ofBits, Ideal.ieee]
  rw [htop] at h
  induction v using EReal.rec with
  | bot => exfalso; revert h; simp [Ideal.cmp]
  | top => exfalso; revert h; simp [Ideal.cmp]
  | coe r => exact ⟨r, rfl⟩

/-- A word from 0 to 31. -/
theorem expert_of_test (w : BitVec 32) (h : IntOp.andi (IntOp.cmpi .sge w 0#32) (IntOp.cmpi .slt w 32#32) = 1#1) : ∃ a : Fin 32, w = BitVec.ofNat 32 a.val := by
  have h' : w.toNat < 32 := by
    revert h; word_cmp
  exact ⟨⟨w.toNat, h'⟩, by simp⟩

theorem pre_reads [Cert.Pre_finite_and_in_range_KernelIdeal.Facts] (x : FVec Ideal ⟨2, ![2048, 512]⟩ .bf16) (rw : FVec Ideal ⟨2, ![512, 32]⟩ .bf16) (ri : IVec ⟨2, ![2048, 2]⟩ 32)
    (W : FVec Ideal ⟨3, ![4, 512, 1024]⟩ .bf16) (h : Cert.Pre_finite_and_in_range_KernelIdeal.fn (F := Ideal) x rw ri W = fun _ => 1#1) :
    (∀ i, ∃ r : ℝ, (x i : EReal) = r) ∧ (∀ i, ∃ r : ℝ, (rw i : EReal) = r) ∧ ∀ i, ∃ a : Fin 32, ri i = BitVec.ofNat 32 a.val := by
  have h' := congrFun h ix0
  simp only [Cert.Pre_finite_and_in_range_KernelIdeal.fn, Cert.Pre_finite_and_in_range_KernelIdeal.fn_part1] at h'
  obtain ⟨h12, h3⟩ := IntOp.andi_eq_one.1 h'
  obtain ⟨h1, h2⟩ := IntOp.andi_eq_one.1 h12
  refine ⟨fun i => ?_, fun i => ?_, fun i => ?_⟩
  · exact real_of_test _ (Host.reduce_andi_all _ _ _ _ _ h1 i)
  · exact real_of_test _ (Host.reduce_andi_all _ _ _ _ _ h2 i)
  · exact expert_of_test _ (Host.reduce_andi_all _ _ _ _ _ h3 i)

end Cert.Moe

end
-- ==== Proof.RefValue.lean ====
/-
  The value of the reference, read at one token and one column: the two normalised gates times the two experts' rows.
-/
module

public import proofs.«01_k».proof.Proof.Gen.ReferenceIdeal
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Moe

open Idealize.ShloMosaic Cert.ReferenceIdeal Cert.ReferenceIdeal.Gen

/-! ## The two gathers -/

/-- The gather of one entry per row: row `T` of the table, at the column that the index word of `T` names. -/
theorem gather_entry {α : Type} (x : S16384x32.Idx → α) (idx : IVec S16384x1x1 32) (T : Fin 16384) :
    Host.gather gather_S16384x32_S16384x1x1_S16384x1_n_1_0_0_1_2_11 x idx (ix2 T 0)
      = x (ix2 T ⟨min (idx (ix3 T 0 0)).toInt.toNat 31, by omega⟩) := by
  unfold Host.gather
  congr 1
  funext a
  refine Fin.ext ?_
  show GatherDims.start _ (ix2 T 0) idx a + GatherDims.batchCoord _ (ix2 T 0) a + GatherDims.offCoord _ (ix2 T 0) a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16384x32_S16384x1x1_S16384x1_n_1_0_0_1_2_11.operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16384x32_S16384x1x1_S16384x1_n_1_0_0_1_2_11.startIndexMap from List.mem_singleton.mpr rfl)]
    have hsi : gather_S16384x32_S16384x1x1_S16384x1_n_1_0_0_1_2_11.siIdx (ix2 T 0) ⟨List.idxOf (1 : Fin 2) gather_S16384x32_S16384x1x1_S16384x1_n_1_0_0_1_2_11.startIndexMap,
        List.idxOf_lt_length_iff.2 (List.mem_singleton.mpr rfl)⟩ = ix3 T 0 0 := by
      funext b; refine Fin.ext ?_
      match b with
      | ⟨0, _⟩ => rfl
      | ⟨1, _⟩ => rfl
      | ⟨2, _⟩ => rfl
    rw [hsi]
    rfl

/-- The gather of one block per row: the block of the table that the index word of `T` names. -/
theorem gather_block {α : Type} (x : S32x512x1024.Idx → α) (idx : IVec S16384x1 32) (T : Fin 16384) (k : Fin 512) (f : Fin 1024) :
    Host.gather gather_S32x512x1024_S16384x1_S16384x512x1024_12_0_n_n_0_1_15121024 x idx (ix3 T k f)
      = x (ix3 ⟨min (idx (ix2 T 0)).toInt.toNat 31, by omega⟩ k f) := by
  unfold Host.gather
  congr 1
  funext a
  refine Fin.ext ?_
  show GatherDims.start _ (ix3 T k f) idx a + GatherDims.batchCoord _ (ix3 T k f) a + GatherDims.offCoord _ (ix3 T k f) a = _
  rw [GatherDims.batchCoord_eq_zero _ _ _ List.not_mem_nil]
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x512x1024_S16384x1_S16384x512x1024_12_0_n_n_0_1_15121024.startIndexMap from List.mem_singleton.mpr rfl)]
    have hsi : gather_S32x512x1024_S16384x1_S16384x512x1024_12_0_n_n_0_1_15121024.siIdx (ix3 T k f) ⟨List.idxOf (0 : Fin 3) gather_S32x512x1024_S16384x1_S16384x512x1024_12_0_n_n_0_1_15121024.startIndexMap,
        List.idxOf_lt_length_iff.2 (List.mem_singleton.mpr rfl)⟩ = ix2 T 0 := by
      funext b; refine Fin.ext ?_
      match b with
      | ⟨0, _⟩ => rfl
      | ⟨1, _⟩ => rfl
    rw [hsi]
    rfl
  · unfold GatherDims.start
    rw [dif_neg (by decide)]
    unfold GatherDims.offCoord
    rw [dif_pos (by decide)]
    exact Nat.zero_add _
  · unfold GatherDims.start
    rw [dif_neg (by decide)]
    unfold GatherDims.offCoord
    rw [dif_pos (by decide)]
    exact Nat.zero_add _

/-! ## The reference's parts, named -/

/-- The router's scores. -/
def scores (x : FVec Ideal S16384x512 .bf16) (rw : FVec Ideal S512x32 .bf16) : FVec Ideal S16384x32 .f32 :=
  Host.dotGeneral dot_S16384x512_S512x32_S16384x32_1_0_0_1_n_n none (extf .f32 x bitsLt_bf16_f32) (extf .f32 rw bitsLt_bf16_f32)

/-- The scores less their row's greatest, exponentiated. -/
def weights (s : FVec Ideal S16384x32 .f32) : FVec Ideal S16384x32 .f32 :=
  Host.exp (subf s (broadcastInDim S16384x32 ![0, 1] bcast_S16384x1_S16384x32_0_1 (broadcastInDim S16384x1 ![0] bcast_S16384_S16384x1_0
    (Host.reduce FloatOps.maximumf s (constant S_ .f32 0xFF800000#32) reducesTo_S16384x32_S16384_d1 h_S_))))

/-- The softmax of the scores. -/
def probs (s : FVec Ideal S16384x32 .f32) : FVec Ideal S16384x32 .f32 :=
  Host.divf (weights s) (broadcastInDim S16384x32 ![0, 1] bcast_S16384x1_S16384x32_0_1 (broadcastInDim S16384x1 ![0] bcast_S16384_S16384x1_0
    (Host.reduceAdd (weights s) (constant S_ .f32 0x00000000#32) reducesTo_S16384x32_S16384_d1 h_S_)))

/-- The softmax read at an index column that may count from the end. -/
def taken (p : FVec Ideal S16384x32 .f32) (e : IVec S16384x1 32) : FVec Ideal S16384x1 .f32 :=
  Host.gather gather_S16384x32_S16384x1x1_S16384x1_n_1_0_0_1_2_11 p
    (shapeCast S16384x1x1 (select (cmpi .slt e (broadcastInDim S16384x1 ![] bcast_S_S16384x1 (constantI S_ 32 0#32)))
      (addi e (broadcastInDim S16384x1 ![] bcast_S_S16384x1 (constantI S_ 32 32#32))) e) shapeCasts_S16384x1_S16384x1x1)

/-- The rows of `x`, each times the block that its index names. -/
def expertRows (x : FVec Ideal S16384x512 .bf16) (W : FVec Ideal S32x512x1024 .bf16) (e : IVec S16384x1 32) : FVec Ideal S16384x1024 .f32 :=
  Host.dotGeneral dot_S16384x512_S16384x512x1024_S16384x1024_1_1_n_2_0_0 none (extf .f32 x bitsLt_bf16_f32)
    (Host.gather gather_S32x512x1024_S16384x1_S16384x512x1024_12_0_n_n_0_1_15121024 (extf .f32 W bitsLt_bf16_f32)
      (broadcastInDim S16384x1 ![0] bcast_S16384_S16384x1_0 (shapeCast S16384 e shapeCasts_S16384x1_S16384)))

/-- The two chosen experts of each token. -/
def first (ri : IVec S16384x2 32) : IVec S16384x1 32 := extractStridedSlice S16384x1 ![0, 0] ri slices_S16384x2_S16384x1_0_0
def second (ri : IVec S16384x2 32) : IVec S16384x1 32 := extractStridedSlice S16384x1 ![0, 1] ri slices_S16384x2_S16384x1_0_1

/-- The reference's result. -/
def whole (x : FVec Ideal S16384x512 .bf16) (rw : FVec Ideal S512x32 .bf16) (ri : IVec S16384x2 32) (W : FVec Ideal S32x512x1024 .bf16) :
    FVec Ideal S16384x1024 .f32 :=
  let g0 := taken (probs (scores x rw)) (first ri)
  let g1 := taken (probs (scores x rw)) (second ri)
  addf (mulf (broadcastInDim S16384x1024 ![0, 1] bcast_S16384x1_S16384x1024_0_1 (Host.divf g0 (addf g0 g1))) (expertRows x W (first ri)))
    (mulf (broadcastInDim S16384x1024 ![0, 1] bcast_S16384x1_S16384x1024_0_1 (Host.divf g1 (addf g0 g1))) (expertRows x W (second ri)))

theorem res_eq (m : (ℓ : Loc nD τ sig) → Buf (Elt Ideal) ℓ) (c : Dev nD) :
    Value.res_main_v33 m c = whole (m ((c.tc : Thread nD τ).loc main_arg0)) (m ((c.tc : Thread nD τ).loc main_arg1))
      (m ((c.tc : Thread nD τ).loc main_arg2)) (m ((c.tc : Thread nD τ).loc main_arg3)) := rfl

/-! ## The parts read at an index -/

theorem scores_apply (x : FVec Ideal S16384x512 .bf16) (rw : FVec Ideal S512x32 .bf16) (T : Fin 16384) (e : Fin 32) :
    scores x rw (ix2 T e) = ∑ k : Fin 512, (x (ix2 T k) : EReal) * rw (ix2 k e) := by
  pointwise [scores]

theorem weights_apply (s : FVec Ideal S16384x32 .f32) (T : Fin 16384) (e : Fin 32) :
    weights s (ix2 T e) = Ideal.exp ((s (ix2 T e) : EReal) - Finset.univ.fold max (⊥ : EReal) fun k : Fin 32 => s (ix2 T k)) := by
  have h : Ideal.ofBits .f32 4286578688#32 = ⊥ := by simp [Ideal.ofBits, Ideal.ieee]
  pointwise [weights]
  rw [h]

theorem probs_apply (s : FVec Ideal S16384x32 .f32) (T : Fin 16384) (e : Fin 32) :
    probs s (ix2 T e) = Ideal.div (weights s (ix2 T e)) (∑ k : Fin 32, (weights s (ix2 T k) : EReal)) := by
  pointwise [probs]

/-- The number that an index word of an expert holds. -/
theorem word_row (a : Fin 32) : (⟨min (BitVec.ofNat 32 a.val).toInt.toNat 31, by omega⟩ : Fin 32) = a := by
  revert a; decide

theorem expertRows_apply (x : FVec Ideal S16384x512 .bf16) (W : FVec Ideal S32x512x1024 .bf16) (e : IVec S16384x1 32) (T : Fin 16384) (f : Fin 1024)
    (a : Fin 32) (ha : e (ix2 T 0) = BitVec.ofNat 32 a.val) :
    expertRows x W e (ix2 T f) = ∑ k : Fin 512, (x (ix2 T k) : EReal) * W (ix3 a k f) := by
  pointwise [expertRows]
  simp only [gather_block]
  pointwise
  simp only [ha, word_row]

theorem taken_apply (p : FVec Ideal S16384x32 .f32) (e : IVec S16384x1 32) (T : Fin 16384) (a : Fin 32) (ha : e (ix2 T 0) = BitVec.ofNat 32 a.val) :
    taken p e (ix2 T 0) = p (ix2 T a) := by
  have h : Scalar.select (IntOp.cmpi .slt (BitVec.ofNat 32 a.val) 0#32) (IntOp.addi (BitVec.ofNat 32 a.val) 32#32) (BitVec.ofNat 32 a.val)
      = BitVec.ofNat 32 a.val := by clear ha; revert a; decide
  unfold taken
  rw [gather_entry]
  pointwise
  simp only [ha, h, word_row]

/-- The softmax of a row of scores. -/
def softmax (s : Fin 32 → EReal) (e : Fin 32) : EReal :=
  Ideal.div (Ideal.exp (s e - Finset.univ.fold max ⊥ s)) (∑ k : Fin 32, Ideal.exp (s k - Finset.univ.fold max ⊥ s))

/-- The reference at token `T`, which chose experts `a` and `b`, and column `f`. -/
theorem whole_apply (x : FVec Ideal S16384x512 .bf16) (rw : FVec Ideal S512x32 .bf16) (ri : IVec S16384x2 32) (W : FVec Ideal S32x512x1024 .bf16)
    (T : Fin 16384) (f : Fin 1024) (a b : Fin 32) (ha : ri (ix2 T 0) = BitVec.ofNat 32 a.val) (hb : ri (ix2 T 1) = BitVec.ofNat 32 b.val)
    (s : Fin 32 → EReal) (hs : s = fun e => ∑ k : Fin 512, (x (ix2 T k) : EReal) * rw (ix2 k e)) :
    (whole x rw ri W (ix2 T f) : EReal)
      = Ideal.div (softmax s a) (softmax s a + softmax s b) * ∑ k : Fin 512, (x (ix2 T k) : EReal) * W (ix3 a k f)
        + Ideal.div (softmax s b) (softmax s a + softmax s b) * ∑ k : Fin 512, (x (ix2 T k) : EReal) * W (ix3 b k f) := by
  have h0 : first ri (ix2 T 0) = BitVec.ofNat 32 a.val := by rw [← ha]; pointwise [first]
  have h1 : second ri (ix2 T 0) = BitVec.ofNat 32 b.val := by rw [← hb]; pointwise [second]
  have hp : ∀ e, probs (scores x rw) (ix2 T e) = softmax s e := fun e => by
    rw [probs_apply]
    simp only [weights_apply, scores_apply]
    rw [hs]; rfl
  pointwise [whole]
  rw [expertRows_apply x W _ T f a h0, expertRows_apply x W _ T f b h1, taken_apply _ _ T a h0, taken_apply _ _ T b h1, hp, hp]

end Cert.ReferenceIdeal.Moe

end
-- ==== Proof.Gate.lean ====
/-
  The gates: what a softmax over all experts, normalised over the two chosen ones, is; and the sum over all experts of
  gated products, of which only the chosen ones count.
-/
module

public import Idealize.ShloMosaic.PureOps
public import proofs.«01_k».proof.Proof.RefValue

@[expose] public section

noncomputable section

namespace Cert.Moe

open Idealize.ShloMosaic Cert.ReferenceIdeal.Moe

/-- The gate of the first of two scores. -/
def gate (u v : EReal) : EReal := Ideal.div 1 (1 + Ideal.exp (v - u))

theorem coe_sum {ι : Type} (S : Finset ι) (g : ι → ℝ) : ((∑ i ∈ S, g i : ℝ) : EReal) = ∑ i ∈ S, (g i : EReal) :=
  map_sum (⟨⟨Real.toEReal, EReal.coe_zero⟩, EReal.coe_add⟩ : ℝ →+ EReal) g S

/-- Over finite scores the softmax is the plain real one, whatever real `μ` the greatest score is. -/
theorem softmax_real (σ : Fin 32 → ℝ) : ∃ μ : ℝ, ∀ e, softmax (fun e => (σ e : EReal)) e
    = ((Real.exp (σ e - μ) / ∑ k : Fin 32, Real.exp (σ k - μ) : ℝ) : EReal) := by
  have hlt : Finset.univ.fold max (⊥ : EReal) (fun e => (σ e : EReal)) < ⊤ :=
    (Finset.fold_max_lt _).2 ⟨bot_lt_top, fun x _ => EReal.coe_lt_top _⟩
  have hgt : (⊥ : EReal) < Finset.univ.fold max (⊥ : EReal) (fun e => (σ e : EReal)) :=
    lt_of_lt_of_le (EReal.bot_lt_coe (σ 0)) ((Finset.le_fold_max _).2 (Or.inr ⟨0, Finset.mem_univ _, le_refl _⟩))
  obtain ⟨μ, hμ⟩ : ∃ μ : ℝ, (μ : EReal) = Finset.univ.fold max (⊥ : EReal) (fun e => (σ e : EReal)) :=
    ⟨_, EReal.coe_toReal hlt.ne hgt.ne'⟩
  refine ⟨μ, fun e => ?_⟩
  have hx : ∀ k, Ideal.exp ((σ k : EReal) - μ) = ((Real.exp (σ k - μ) : ℝ) : EReal) := fun k => by
    rw [← EReal.coe_sub]; rfl
  have hpos : 0 < ∑ k : Fin 32, Real.exp (σ k - μ) := Finset.sum_pos (fun k _ => Real.exp_pos _) ⟨0, Finset.mem_univ _⟩
  unfold softmax
  rw [← hμ]
  simp only [hx]
  rw [← coe_sum, Ideal.div_coe hpos.ne', ← EReal.coe_mul, mul_one_div]

theorem gate_real (u v : ℝ) : gate u v = ((1 / (1 + Real.exp (v - u)) : ℝ) : EReal) := by
  have hx : Ideal.exp ((v : EReal) - u) = ((Real.exp (v - u) : ℝ) : EReal) := by rw [← EReal.coe_sub]; rfl
  have hpos : 0 < 1 + Real.exp (v - u) := by positivity
  unfold gate
  rw [hx, ← EReal.coe_one, ← EReal.coe_add, Ideal.div_coe hpos.ne', ← EReal.coe_mul, one_mul]

/-- The two normalised softmax entries are the gate and its complement. -/
theorem softmax_gate (σ : Fin 32 → ℝ) (s : Fin 32 → EReal) (hs : s = fun e => (σ e : EReal)) (a b : Fin 32) :
    Ideal.div (softmax s a) (softmax s a + softmax s b) = gate (s a) (s b)
      ∧ Ideal.div (softmax s b) (softmax s a + softmax s b) = 1 - gate (s a) (s b) := by
  obtain ⟨μ, h⟩ := softmax_real σ
  have hZ : 0 < ∑ k : Fin 32, Real.exp (σ k - μ) := Finset.sum_pos (fun k _ => Real.exp_pos _) ⟨0, Finset.mem_univ _⟩
  have hA := Real.exp_pos (σ a - μ)
  have hB := Real.exp_pos (σ b - μ)
  have hAB : Real.exp (σ b - σ a) = Real.exp (σ b - μ) / Real.exp (σ a - μ) := by rw [← Real.exp_sub]; congr 1; ring
  have hpos : 0 < Real.exp (σ a - μ) / (∑ k : Fin 32, Real.exp (σ k - μ)) + Real.exp (σ b - μ) / ∑ k : Fin 32, Real.exp (σ k - μ) := by
    positivity
  subst hs
  rw [h a, h b, gate_real, ← EReal.coe_add, Ideal.div_coe hpos.ne', Ideal.div_coe hpos.ne', ← EReal.coe_mul, ← EReal.coe_mul, ← EReal.coe_one,
    ← EReal.coe_sub, hAB]
  generalize (∑ k : Fin 32, Real.exp (σ k - μ)) = Z at hZ hpos ⊢
  constructor <;> congr 1 <;> field_simp <;> ring

theorem gate_nonneg (u v : ℝ) : 0 ≤ gate u v ∧ 0 ≤ 1 - gate u v ∧ gate u v ≠ ⊤ ∧ 1 - gate u v ≠ ⊤ := by
  have hE := Real.exp_pos (v - u)
  rw [gate_real, ← EReal.coe_one, ← EReal.coe_sub]
  refine ⟨EReal.coe_nonneg.2 (by positivity), EReal.coe_nonneg.2 ?_, EReal.coe_ne_top _, EReal.coe_ne_top _⟩
  rw [sub_nonneg, div_le_one (by positivity)]
  linarith

/-- A finite factor that is not negative may be taken out of a sum. -/
theorem mul_sum_of_nonneg {ι : Type} (S : Finset ι) (c : EReal) (h0 : 0 ≤ c) (ht : c ≠ ⊤) (g : ι → EReal) :
    ∑ i ∈ S, c * g i = c * ∑ i ∈ S, g i := by
  classical
  induction S using Finset.induction_on with
  | empty => simp
  | insert a S ha ih => rw [Finset.sum_insert ha, Finset.sum_insert ha, ih, EReal.left_distrib_of_nonneg_of_ne_top h0 ht]

/-- The gate of expert `e` where experts `a` and `b` are chosen with gates `g` and `g'`. -/
def gateOf (a b : Fin 32) (g g' : EReal) (e : Fin 32) : EReal := (if a = e then g else 0) + (if b = e then g' else 0)

/-- The sum over all experts of the gated rows times the blocks is the two chosen ones'. -/
theorem sum_gated (a b : Fin 32) (g g' : EReal) (h0 : 0 ≤ g) (h0' : 0 ≤ g') (ht : g ≠ ⊤) (ht' : g' ≠ ⊤)
    (x : Fin 512 → EReal) (W : Fin 32 → Fin 512 → EReal) :
    ∑ e : Fin 32, ∑ k : Fin 512, x k * gateOf a b g g' e * W e k = g * ∑ k : Fin 512, x k * W a k + g' * ∑ k : Fin 512, x k * W b k := by
  have hterm : ∀ e, ∑ k : Fin 512, x k * gateOf a b g g' e * W e k
      = (if a = e then g * ∑ k : Fin 512, x k * W e k else 0) + (if b = e then g' * ∑ k : Fin 512, x k * W e k else 0) := fun e => by
    have hc : ∀ c : EReal, ∀ k, x k * c * W e k = c * (x k * W e k) := fun c k => by rw [mul_comm (x k) c, mul_assoc]
    have n1 : (0 : EReal) ≤ if a = e then g else 0 := by split <;> simp [h0]
    have n2 : (0 : EReal) ≤ if b = e then g' else 0 := by split <;> simp [h0']
    have t1 : (if a = e then g else (0 : EReal)) ≠ ⊤ := by split <;> simp [ht]
    have t2 : (if b = e then g' else (0 : EReal)) ≠ ⊤ := by split <;> simp [ht']
    simp only [hc]
    unfold gateOf
    rw [mul_sum_of_nonneg _ _ (add_nonneg n1 n2) (EReal.add_ne_top t1 t2), EReal.right_distrib_of_nonneg n1 n2, ite_mul, ite_mul, zero_mul]
  simp only [hterm]
  rw [Finset.sum_add_distrib, Finset.sum_ite_eq, Finset.sum_ite_eq, if_pos (Finset.mem_univ _), if_pos (Finset.mem_univ _)]

/-- Finite products summed are finite. -/
theorem sum_real {ι : Type} (S : Finset ι) (x y : ι → EReal) (hx : ∀ i, ∃ r : ℝ, x i = r) (hy : ∀ i, ∃ r : ℝ, y i = r) :
    ∃ r : ℝ, ∑ i ∈ S, x i * y i = r := by
  choose u hu using hx
  choose v hv using hy
  refine ⟨∑ i ∈ S, u i * v i, ?_⟩
  rw [coe_sum]
  exact Finset.sum_congr rfl fun i _ => by rw [hu, hv, EReal.coe_mul]

end Cert.Moe

end
-- ==== Proof.KernelValue.lean ====
/-
  The value of the kernel, read at one token of a device and one column: over the eight hops and the two directions, the
  gated row times the blocks of two experts each.
-/
module

public import proofs.«01_k».proof.Proof.Gate
public import proofs.«01_k».proof.Proof.Launch
public import Idealize.ShloMosaic.Lib.Pointwise

@[expose] public section

set_option maxRecDepth 16384

noncomputable section

namespace Cert.KernelIdeal.Hop

open Idealize.ShloMosaic Idealize.ShloMosaic.TcCoe Cert.KernelIdeal Cert.KernelIdeal.Gen Cert.Moe

/-! ## The gated rows -/

/-- A lane number against an expert's word. -/
theorem select_word {α : Type} (a e : Fin 32) (u v : α) :
    Scalar.select (IntOp.cmpi .eq (BitVec.ofNat 32 a.val) (BitVec.ofNat 32 e.val)) u v = if a = e then u else v := by
  have h : IntOp.cmpi .eq (BitVec.ofNat 32 a.val) (BitVec.ofNat 32 e.val) = if a = e then 1#1 else 0#1 := by revert a e; decide
  rw [h]
  split <;> rfl

section Rows

variable (x : Vec Ideal S2048x512 .bf16) (rw : Vec Ideal S512x32 .bf16) (a0 a1 : Vec Ideal S2048x1 .i32) (t : Fin 2048) (a b : Fin 32)
  (ha : a0 (ix2 t 0) = BitVec.ofNat 32 a.val) (hb : a1 (ix2 t 0) = BitVec.ofNat 32 b.val)
  (s : Fin 32 → EReal) (hs : s = fun e => ∑ k : Fin 512, (x (ix2 t k) : EReal) * rw (ix2 k e))

include ha hb hs

theorem gate_apply : k0_pay4 x rw a0 a1 (ix2 t 0) = gate (s a) (s b) := by
  pointwise [k0_pay4, k0_pay1, k0_pay2, k0_pay3]
  simp only [ha, hb, select_word]
  rw [Finset.sum_ite_eq_of_mem' _ _ _ (Finset.mem_univ _), Finset.sum_ite_eq_of_mem' _ _ _ (Finset.mem_univ _), hs]
  rfl

theorem gateHalf_apply (e : Fin 32) (k : Fin 512) :
    (gateHalf x rw a0 a1 (BitVec.ofNat 32 e.val) (ix2 t k) : EReal) = (x (ix2 t k) : EReal) * gateOf a b (gate (s a) (s b)) (1 - gate (s a) (s b)) e := by
  pointwise [gateHalf, k0_pay1, k0_pay2, k0_pay3, k0_pay5]
  rw [ha, hb, select_word, select_word, gate_apply x rw a0 a1 t a b ha hb s hs]
  rfl

end Rows

theorem prod_cat (p p' : FVec Ideal S2048x512 .bf16) (q : Vec Ideal S1024x1024 .bf16) (t : Fin 2048) (f : Fin 1024) :
    (prod (cat p p') q (ix2 t f) : EReal)
      = (∑ k : Fin 512, (p (ix2 t k) : EReal) * q (ix2 ⟨k.val, by omega⟩ f)) + ∑ k : Fin 512, (p' (ix2 t k) : EReal) * q (ix2 ⟨512 + k.val, by omega⟩ f) := by
  pointwise [prod]
  rw [Fin.sum_univ_two_halves 512 512 rfl]
  congr 1
  · refine Finset.sum_congr rfl fun k _ => ?_
    have h : cat p p' (ix2 t ⟨k.val, by omega⟩) = p (ix2 t k) := by
      unfold cat
      rw [dif_pos (show (ix2 t (⟨k.val, by omega⟩ : Fin 1024) 1).val < 512 from k.isLt)]
      congr 1
      funext i
      match i with
      | ⟨0, _⟩ => rfl
      | ⟨1, _⟩ => rfl
    rw [h]
  · refine Finset.sum_congr rfl fun k _ => ?_
    have h : cat p p' (ix2 t ⟨512 + k.val, by omega⟩) = p' (ix2 t k) := by
      unfold cat
      rw [dif_neg (show ¬ (ix2 t (⟨512 + k.val, by omega⟩ : Fin 1024) 1).val < 512 from by show ¬ 512 + k.val < 512; omega)]
      congr 1
      funext i
      match i with
      | ⟨0, _⟩ => rfl
      | ⟨1, _⟩ => exact Fin.ext (by show 512 + k.val - 512 = k.val; omega)
    rw [h]

/-! ## A hop's product -/

/-- Expert `j` of the two in device `s`'s block of direction `d`. -/
def expert (s : Fin 8) (d j : Fin 2) : Fin 32 := ⟨4 * s.val + 2 * d.val + j.val, by omega⟩

theorem expert_word (s : Fin 8) (d j : Fin 2) :
    Scalar.addi (Scalar.addi (Scalar.muli (BitVec.ofNat 32 s.val) 4#32) (BitVec.ofNat 32 (2 * d.val))) (BitVec.ofNat 32 j.val)
      = BitVec.ofNat 32 (expert s d j).val := by
  revert s d j; decide

theorem srcW_eq (d : Fin 2) (c : Dev nD) (n : Fin 8) : srcW d c n.val = BitVec.ofNat 32 (org d n.val c).val := by
  revert d c n; decide

/-- What the block `q` of device `s` and direction `d` adds to the output: its two experts' shares. -/
def share (x : Fin 512 → EReal) (g : Fin 32 → EReal) (f : Fin 1024) (s : Dev nD) (d : Fin 2) (q : Vec Ideal S1024x1024 .bf16) : EReal :=
  (∑ k : Fin 512, x k * g (expert s d 0) * q (ix2 ⟨k.val, by omega⟩ f)) + ∑ k : Fin 512, x k * g (expert s d 1) * q (ix2 ⟨512 + k.val, by omega⟩ f)

theorem expert_injective : Function.Injective fun p : Fin 8 × Fin 2 × Fin 2 => expert p.1 p.2.1 p.2.2 := by
  rintro ⟨s, d, j⟩ ⟨s', d', j'⟩ h
  have h' : 4 * s.val + 2 * d.val + j.val = 4 * s'.val + 2 * d'.val + j'.val := congrArg Fin.val h
  have : s = s' := Fin.ext (by omega)
  have : d = d' := Fin.ext (by omega)
  have : j = j' := Fin.ext (by omega)
  subst_vars; rfl

/-- Over the eight hops and the two directions every expert comes once. -/
theorem sum_experts (c : Dev nD) (Y : Fin 32 → EReal) :
    ∑ i : Fin 8, ((Y (expert (org 0 i.val c) 0 0) + Y (expert (org 0 i.val c) 0 1)) + (Y (expert (org 1 i.val c) 1 0) + Y (expert (org 1 i.val c) 1 1)))
      = ∑ e : Fin 32, Y e := by
  have hb : Function.Bijective fun p : Fin 8 × Fin 2 × Fin 2 => expert p.1 p.2.1 p.2.2 :=
    (Fintype.bijective_iff_injective_and_card _).2 ⟨expert_injective, by simp⟩
  have ho : ∀ d : Fin 2, Function.Bijective fun i : Fin 8 => org d i.val c := fun d =>
    (Fintype.bijective_iff_injective_and_card _).2 ⟨by revert d c; decide, by decide⟩
  have hs : ∀ (d : Fin 2) (g : Dev nD → EReal), ∑ i : Fin 8, g (org d i.val c) = ∑ s, g s := fun d g => Fintype.sum_bijective _ (ho d) _ _ fun _ => rfl
  rw [← Fintype.sum_bijective _ hb (fun p => Y (expert p.1 p.2.1 p.2.2)) Y fun _ => rfl, Fintype.sum_prod_type, Finset.sum_add_distrib,
    hs 0 fun s => Y (expert s 0 0) + Y (expert s 0 1), hs 1 fun s => Y (expert s 1 0) + Y (expert s 1 1), ← Finset.sum_add_distrib]
  refine Finset.sum_congr rfl fun s _ => ?_
  rw [Fintype.sum_prod_type, Fin.sum_univ_two, Fin.sum_univ_two, Fin.sum_univ_two]

theorem cast_block (q : Vec Ideal S1024x1024 .bf16) : shapeCast S1024x1024 q shapeCasts_S1024x1024_S1024x1024 = q := by
  funext i; pointwise

theorem outC_zero_apply (X : Fin 2 → Dev nD → (S1024x1024.Idx → Elt Ideal .bf16)) (c : Dev nD) (x : Vec Ideal S2048x512 .bf16) (rw : Vec Ideal S512x32 .bf16)
    (a0 a1 : Vec Ideal S2048x1 .i32) (i : S2048x1024.Idx) :
    (outC X c x rw a0 a1 0 i : EReal) = prod (gated x rw a0 a1 (srcW 0 c 0) 0#32) (X 0 (org 0 0 c)) i + prod (gated x rw a0 a1 (srcW 1 c 0) 2#32) (X 1 (org 1 0 c)) i := by
  show (truncf (F := Ideal) .bf16 _ bitsLt_bf16_f32 i : EReal) = _
  rw [cast_block, cast_block]
  rfl

theorem outC_succ_apply (X : Fin 2 → Dev nD → (S1024x1024.Idx → Elt Ideal .bf16)) (c : Dev nD) (x : Vec Ideal S2048x512 .bf16) (rw : Vec Ideal S512x32 .bf16)
    (a0 a1 : Vec Ideal S2048x1 .i32) (n : ℕ) (i : S2048x1024.Idx) :
    (outC X c x rw a0 a1 (n + 1) i : EReal) = outC X c x rw a0 a1 n i
      + (prod (gated x rw a0 a1 (srcW 0 c (n + 1)) 0#32) (X 0 (org 0 (n + 1) c)) i + prod (gated x rw a0 a1 (srcW 1 c (n + 1)) 2#32) (X 1 (org 1 (n + 1) c)) i) := by
  have h : ∀ v : FVec Ideal S2048x1024 .bf16, shapeCast S2048x1024 v shapeCasts_S2048x1024_S2048x1024 = v := fun v => by funext i; pointwise
  show (addf (F := Ideal) (φ := .bf16) (shapeCast S2048x1024 (outC X c x rw a0 a1 n) shapeCasts_S2048x1024_S2048x1024) _ i : EReal) = _
  rw [h]
  rfl

section Hops

variable (X : Fin 2 → Dev nD → (S1024x1024.Idx → Elt Ideal .bf16)) (c : Dev nD)
variable (x : Vec Ideal S2048x512 .bf16) (rw : Vec Ideal S512x32 .bf16) (a0 a1 : Vec Ideal S2048x1 .i32) (t : Fin 2048) (f : Fin 1024) (a b : Fin 32)
  (ha : a0 (ix2 t 0) = BitVec.ofNat 32 a.val) (hb : a1 (ix2 t 0) = BitVec.ofNat 32 b.val)
  (s : Fin 32 → EReal) (hs : s = fun e => ∑ k : Fin 512, (x (ix2 t k) : EReal) * rw (ix2 k e))

include ha hb hs

theorem prod_gated (n : Fin 8) (d : Fin 2) (q : Vec Ideal S1024x1024 .bf16) :
    (prod (gated x rw a0 a1 (srcW d c n.val) (BitVec.ofNat 32 (2 * d.val))) q (ix2 t f) : EReal)
      = share (fun k => x (ix2 t k)) (gateOf a b (gate (s a) (s b)) (1 - gate (s a) (s b))) f (org d n.val c) d q := by
  have e0 := expert_word (org d n.val c) d 0
  have e1 := expert_word (org d n.val c) d 1
  unfold gated share
  rw [srcW_eq, prod_cat]
  congr 1
  · refine Finset.sum_congr rfl fun k _ => ?_
    exact congrArg (· * _) ((congrArg (fun w => gateHalf x rw a0 a1 w (ix2 t k)) e0).trans (gateHalf_apply x rw a0 a1 t a b ha hb s hs _ k))
  · refine Finset.sum_congr rfl fun k _ => ?_
    exact congrArg (· * _) ((congrArg (fun w => gateHalf x rw a0 a1 w (ix2 t k)) e1).trans (gateHalf_apply x rw a0 a1 t a b ha hb s hs _ k))

theorem outC_apply (n : ℕ) (hn : n < 8) :
    (outC X c x rw a0 a1 n (ix2 t f) : EReal)
      = ∑ i ∈ Finset.range (n + 1), (share (fun k => x (ix2 t k)) (gateOf a b (gate (s a) (s b)) (1 - gate (s a) (s b))) f (org 0 i c) 0 (X 0 (org 0 i c))
        + share (fun k => x (ix2 t k)) (gateOf a b (gate (s a) (s b)) (1 - gate (s a) (s b))) f (org 1 i c) 1 (X 1 (org 1 i c))) := by
  induction n with
  | zero =>
    have e0 : (prod (gated x rw a0 a1 (srcW 0 c 0) 0#32) (X 0 (org 0 0 c)) (ix2 t f) : EReal) = _ := prod_gated c x rw a0 a1 t f a b ha hb s hs 0 0 (X 0 (org 0 0 c))
    have e1 : (prod (gated x rw a0 a1 (srcW 1 c 0) 2#32) (X 1 (org 1 0 c)) (ix2 t f) : EReal) = _ := prod_gated c x rw a0 a1 t f a b ha hb s hs 0 1 (X 1 (org 1 0 c))
    rw [Finset.sum_range_one, outC_zero_apply, e0, e1]
    rfl
  | succ n ih =>
    have e0 : (prod (gated x rw a0 a1 (srcW 0 c (n + 1)) 0#32) (X 0 (org 0 (n + 1) c)) (ix2 t f) : EReal) = _ :=
      prod_gated c x rw a0 a1 t f a b ha hb s hs ⟨n + 1, hn⟩ 0 (X 0 (org 0 (n + 1) c))
    have e1 : (prod (gated x rw a0 a1 (srcW 1 c (n + 1)) 2#32) (X 1 (org 1 (n + 1) c)) (ix2 t f) : EReal) = _ :=
      prod_gated c x rw a0 a1 t f a b ha hb s hs ⟨n + 1, hn⟩ 1 (X 1 (org 1 (n + 1) c))
    rw [Finset.sum_range_succ, ← ih (by omega), outC_succ_apply, e0, e1]

/-- The output after the last hop, when the blocks hold the experts' matrices: the sum over all experts. -/
theorem outC_all (W : Fin 32 → Fin 512 → EReal)
    (hX : ∀ (s : Dev nD) (d : Fin 2) (k : Fin 512), X d s (ix2 ⟨k.val, by omega⟩ f) = W (expert s d 0) k ∧ X d s (ix2 ⟨512 + k.val, by omega⟩ f) = W (expert s d 1) k) :
    (outC X c x rw a0 a1 7 (ix2 t f) : EReal)
      = ∑ e : Fin 32, ∑ k : Fin 512, (x (ix2 t k) : EReal) * gateOf a b (gate (s a) (s b)) (1 - gate (s a) (s b)) e * W e k := by
  rw [outC_apply X c x rw a0 a1 t f a b ha hb s hs 7 (by omega), Finset.sum_range]
  unfold share
  simp only [fun s d k => (hX s d k).1, fun s d k => (hX s d k).2]
  rw [← sum_experts c fun e => ∑ k : Fin 512, (x (ix2 t k) : EReal) * gateOf a b (gate (s a) (s b)) (1 - gate (s a) (s b)) e * W e k]

end Hops

/-! ## The device's inputs and its weight blocks -/

/-- The rows of a device's four matrices in the two blocks. -/
theorem block_rows (w : Vec Ideal S4x512x1024 .bf16) (k : Fin 512) (f : Fin 1024) :
    (extractStridedSlice S1024x1024 ![0, 0] (shapeCast S2048x1024 w shapeCasts_S4x512x1024_S2048x1024) slices_S2048x1024_S1024x1024_0_0 (ix2 ⟨k.val, by omega⟩ f) = w (ix3 0 k f)
      ∧ extractStridedSlice S1024x1024 ![0, 0] (shapeCast S2048x1024 w shapeCasts_S4x512x1024_S2048x1024) slices_S2048x1024_S1024x1024_0_0 (ix2 ⟨512 + k.val, by omega⟩ f) = w (ix3 1 k f))
    ∧ extractStridedSlice S1024x1024 ![1024, 0] (shapeCast S2048x1024 w shapeCasts_S4x512x1024_S2048x1024) slices_S2048x1024_S1024x1024_1024_0 (ix2 ⟨k.val, by omega⟩ f) = w (ix3 2 k f)
      ∧ extractStridedSlice S1024x1024 ![1024, 0] (shapeCast S2048x1024 w shapeCasts_S4x512x1024_S2048x1024) slices_S2048x1024_S1024x1024_1024_0 (ix2 ⟨512 + k.val, by omega⟩ f) = w (ix3 3 k f) := by
  have hk := k.isLt
  refine ⟨⟨?_, ?_⟩, ?_, ?_⟩
  all_goals pointwise
  · rw [show (⟨k.val / 512, by omega⟩ : Fin 4) = 0 from Fin.ext (by show k.val / 512 = 0; omega),
      show (⟨k.val % 512, by omega⟩ : Fin 512) = k from Fin.ext (by show k.val % 512 = k.val; omega)]
  · rw [show (⟨(512 + k.val) / 512, by omega⟩ : Fin 4) = 1 from Fin.ext (by show (512 + k.val) / 512 = 1; omega)]
  · rw [show (⟨(1024 + k.val) / 512, by omega⟩ : Fin 4) = 2 from Fin.ext (by show (1024 + k.val) / 512 = 2; omega)]
  · rw [show (⟨(1024 + (512 + k.val)) / 512, by omega⟩ : Fin 4) = 3 from Fin.ext (by show (1024 + (512 + k.val)) / 512 = 3; omega)]

theorem pick0_apply (ri : Vec Ideal S2048x2 .i32) (t : Fin 2048) : pick0 ri (ix2 t 0) = ri (ix2 t 0) := by
  pointwise [pick0]
theorem pick1_apply (ri : Vec Ideal S2048x2 .i32) (t : Fin 2048) : pick1 ri (ix2 t 0) = ri (ix2 t 1) := by
  pointwise [pick1]

section Final

variable (m : (ℓ : Loc nD τ sig) → Buf (Elt Ideal) ℓ)

theorem V₁_v2 (c : Dev nD) : V₁ m c main_v2 = extractStridedSlice S1024x1024 ![0, 0]
    (shapeCast S2048x1024 (m ((c : Thread nD τ).loc main_arg3)) shapeCasts_S4x512x1024_S2048x1024) slices_S2048x1024_S1024x1024_0_0 := by
  show StableHlo.after hostOps0 (V₀ m c) (Proc.devRef .tc main_v2) = _
  rw [StableHlo.after_cons, StableHlo.after_cons, StableHlo.after_cons, StableHlo.after_nil, StableHlo.unary_result_ne _ _ _ _ _ _ (by decide),
    StableHlo.unary_result, StableHlo.reshape_result]
  rfl

theorem V₁_v3 (c : Dev nD) : V₁ m c main_v3 = extractStridedSlice S1024x1024 ![1024, 0]
    (shapeCast S2048x1024 (m ((c : Thread nD τ).loc main_arg3)) shapeCasts_S4x512x1024_S2048x1024) slices_S2048x1024_S1024x1024_1024_0 := by
  show StableHlo.after hostOps0 (V₀ m c) (Proc.devRef .tc main_v3) = _
  rw [StableHlo.after_cons, StableHlo.after_cons, StableHlo.after_cons, StableHlo.after_nil, StableHlo.unary_result,
    StableHlo.unary_result_ne _ _ _ _ _ _ (by decide), StableHlo.reshape_result]
  rfl

theorem Xm_apply (s : Dev nD) (d : Fin 2) (k : Fin 512) (f : Fin 1024) :
    Xm m d s (ix2 ⟨k.val, by omega⟩ f) = (m ((s : Thread nD τ).loc main_arg3) : S4x512x1024.Idx → EReal) (ix3 ⟨2 * d.val, by omega⟩ k f)
    ∧ Xm m d s (ix2 ⟨512 + k.val, by omega⟩ f) = (m ((s : Thread nD τ).loc main_arg3) : S4x512x1024.Idx → EReal) (ix3 ⟨2 * d.val + 1, by omega⟩ k f) := by
  have h := block_rows (m ((s : Thread nD τ).loc main_arg3)) k f
  have hd : d = 0 ∨ d = 1 := by revert d; decide
  rcases hd with rfl | rfl
  · exact ⟨(congrFun (V₁_v2 m s) _).trans h.1.1, (congrFun (V₁_v2 m s) _).trans h.1.2⟩
  · exact ⟨(congrFun (V₁_v3 m s) _).trans h.2.1, (congrFun (V₁_v3 m s) _).trans h.2.2⟩

/-- The kernel's result on device `c` at token `t`, which chose experts `a` and `b`, and column `f`, where `W e k` is entry `(k, f)` of expert `e`. -/
theorem final_apply (c : Dev nD) (t : Fin 2048) (f : Fin 1024) (a b : Fin 32)
    (ha : (m ((c : Thread nD τ).loc main_arg2) : S2048x2.Idx → BitVec 32) (ix2 t 0) = BitVec.ofNat 32 a.val)
    (hb : (m ((c : Thread nD τ).loc main_arg2) : S2048x2.Idx → BitVec 32) (ix2 t 1) = BitVec.ofNat 32 b.val)
    (x : Fin 512 → EReal) (hx : ∀ k, (m ((c : Thread nD τ).loc main_arg0) : S2048x512.Idx → EReal) (ix2 t k) = x k)
    (s : Fin 32 → EReal) (hs : s = fun e => ∑ k : Fin 512, x k * (m ((c : Thread nD τ).loc main_arg1) : S512x32.Idx → EReal) (ix2 k e))
    (W : Fin 32 → Fin 512 → EReal)
    (hW : ∀ (s : Dev nD) (j : Fin 4) (k : Fin 512), (m ((s : Thread nD τ).loc main_arg3) : S4x512x1024.Idx → EReal) (ix3 j k f) = W ⟨4 * s.val + j.val, by have : s.val < 8 := s.isLt; omega⟩ k) :
    (final m c (ix2 t f) : EReal)
      = ∑ e : Fin 32, ∑ k : Fin 512, x k * gateOf a b (gate (s a) (s b)) (1 - gate (s a) (s b)) e * W e k := by
  have e0 := V₁_arg m c main_arg0 (by decide) (by decide) (by decide)
  have e1 := V₁_arg m c main_arg1 (by decide) (by decide) (by decide)
  have e2 := V₁_arg m c main_arg2 (by decide) (by decide) (by decide)
  have hx' : x = fun k => (m ((c : Thread nD τ).loc main_arg0) : S2048x512.Idx → EReal) (ix2 t k) := funext fun k => (hx k).symm
  subst hx'
  refine (outC_all (Xm m) c (V₁ m c main_arg0) (V₁ m c main_arg1) (pick0 (V₁ m c main_arg2)) (pick1 (V₁ m c main_arg2)) t f a b ?_ ?_ s ?_ W ?_).trans ?_
  · rw [e2, pick0_apply]; exact ha
  · rw [e2, pick1_apply]; exact hb
  · rw [e0, e1]; exact hs
  · intro s d k
    have h := Xm_apply m s d k f
    refine ⟨h.1.trans ((hW s ⟨2 * d.val, by omega⟩ k).trans ?_), h.2.trans ((hW s ⟨2 * d.val + 1, by omega⟩ k).trans ?_)⟩
    · congr 1
    · congr 1
  · rw [e0]

end Final

end Cert.KernelIdeal.Hop

end
-- ==== Proof.Equation.lean ====
/-
  The kernel's result on each device is its block of the reference's, where the inputs are finite and the expert numbers in range.
-/
module

public import proofs.«01_k».proof.Proof.Pre
public import proofs.«01_k».proof.Proof.KernelValue
public import proofs.«01_k».proof.Proof.RefValue
public import proofs.«01_k».proof.Proof.Frames
public import Idealize.ShloMosaic.Lib.Claim
public import Idealize.ShloMosaic.Lib.Layout

@[expose] public section

set_option maxRecDepth 16384

noncomputable section

namespace Cert.Moe

open Idealize.ShloMosaic Idealize.ShloMosaic.TcCoe Idealize.SL.Sem Cert.KernelIdeal.Hop Cert.ReferenceIdeal.Moe

/-- A row of a block of rows is a row of the whole. -/
theorem block_row {α : Type} {C : ℕ} (h : Layout.Tiles ⟨2, ![2048, C]⟩ ⟨2, ![16384, C]⟩ 0 8) (c : Fin 8) (v : (⟨2, ![16384, C]⟩ : Shape).Idx → α) (t : Fin 2048) (l : Fin C) :
    Layout.block ⟨2, ![2048, C]⟩ ⟨2, ![16384, C]⟩ 0 8 c v h (ix2 t l) = v (ix2 ⟨c.val * 2048 + t.val, by omega⟩ l) := by
  rw [Layout.block_apply]
  congr 1
  funext i
  match i with
  | ⟨0, _⟩ => rfl
  | ⟨1, _⟩ => rfl

/-- A matrix of a device's four is a matrix of the thirty-two. -/
theorem block_matrix {α : Type} (h : Layout.Tiles ⟨3, ![4, 512, 1024]⟩ ⟨3, ![32, 512, 1024]⟩ 0 8) (c : Fin 8) (v : (⟨3, ![32, 512, 1024]⟩ : Shape).Idx → α) (j : Fin 4)
    (k : Fin 512) (f : Fin 1024) :
    Layout.block ⟨3, ![4, 512, 1024]⟩ ⟨3, ![32, 512, 1024]⟩ 0 8 c v h (ix3 j k f) = v (ix3 ⟨4 * c.val + j.val, by omega⟩ k f) := by
  rw [Layout.block_apply]
  congr 1
  funext i
  match i with
  | ⟨0, _⟩ => exact Fin.ext (by show c.val * 4 + j.val = 4 * c.val + j.val; omega)
  | ⟨1, _⟩ => rfl
  | ⟨2, _⟩ => rfl

/-- The two programs' values agree, device by device. -/
theorem final_eq (m : (ℓ : Loc Cert.KernelIdeal.nD Cert.KernelIdeal.τ Cert.KernelIdeal.sig) → Buf (Elt Ideal) ℓ)
    (x : FVec Ideal ⟨2, ![16384, 512]⟩ .bf16) (rw : FVec Ideal ⟨2, ![512, 32]⟩ .bf16) (ri : IVec ⟨2, ![16384, 2]⟩ 32) (W : FVec Ideal ⟨3, ![32, 512, 1024]⟩ .bf16)
    (h0 : ∀ c : Dev Cert.KernelIdeal.nD, m ((c.tc : Thread Cert.KernelIdeal.nD Cert.KernelIdeal.τ).loc Cert.KernelIdeal.main_arg0) = Layout.block ⟨2, ![2048, 512]⟩ ⟨2, ![16384, 512]⟩ 0 8 c x)
    (h1 : ∀ c : Dev Cert.KernelIdeal.nD, m ((c.tc : Thread Cert.KernelIdeal.nD Cert.KernelIdeal.τ).loc Cert.KernelIdeal.main_arg1) = rw)
    (h2 : ∀ c : Dev Cert.KernelIdeal.nD, m ((c.tc : Thread Cert.KernelIdeal.nD Cert.KernelIdeal.τ).loc Cert.KernelIdeal.main_arg2) = Layout.block ⟨2, ![2048, 2]⟩ ⟨2, ![16384, 2]⟩ 0 8 c ri)
    (h3 : ∀ c : Dev Cert.KernelIdeal.nD, m ((c.tc : Thread Cert.KernelIdeal.nD Cert.KernelIdeal.τ).loc Cert.KernelIdeal.main_arg3) = Layout.block ⟨3, ![4, 512, 1024]⟩ ⟨3, ![32, 512, 1024]⟩ 0 8 c W)
    (c : Dev Cert.KernelIdeal.nD)
    (hx : ∀ i, ∃ r : ℝ, (Layout.block ⟨2, ![2048, 512]⟩ ⟨2, ![16384, 512]⟩ 0 8 c x (by decide) i : EReal) = r) (hr : ∀ i, ∃ r : ℝ, (rw i : EReal) = r)
    (hi : ∀ i, ∃ a : Fin 32, Layout.block ⟨2, ![2048, 2]⟩ ⟨2, ![16384, 2]⟩ 0 8 c ri (by decide) i = BitVec.ofNat 32 a.val) :
    final m c = Layout.block ⟨2, ![2048, 1024]⟩ ⟨2, ![16384, 1024]⟩ 0 8 c (whole x rw ri W) := by
  have hc : c.val < 8 := c.isLt
  funext j
  obtain ⟨t, f, rfl⟩ : ∃ (t : Fin 2048) (f : Fin 1024), j = ix2 t f := ⟨j 0, j 1, eq_ix2 j⟩
  obtain ⟨a, ha⟩ := hi (ix2 t 0)
  obtain ⟨b, hb⟩ := hi (ix2 t 1)
  have hs : ∀ e, ∃ r : ℝ, ∑ k : Fin 512, (x (ix2 ⟨c.val * 2048 + t.val, by omega⟩ k) : EReal) * rw (ix2 k e) = r := fun e =>
    sum_real _ _ _ (fun k => by have h := hx (ix2 t k); rw [block_row] at h; exact h) fun k => hr _
  choose σ hσ using hs
  have hk := final_apply m c t f a b (by rw [h2 c]; exact ha) (by rw [h2 c]; exact hb)
    (fun k => (x (ix2 ⟨c.val * 2048 + t.val, by omega⟩ k) : EReal)) (fun k => by rw [h0 c]; exact block_row _ c x t k)
    (fun e => (σ e : EReal)) (by rw [h1 c]; exact funext fun e => (hσ e).symm)
    (fun e k => W (ix3 e k f)) (fun s j k => by rw [h3 s]; exact block_matrix _ s W j k f)
  have hg := gate_nonneg (σ a) (σ b)
  have hsm := softmax_gate σ (fun e => (σ e : EReal)) rfl a b
  have hw := whole_apply x rw ri W ⟨c.val * 2048 + t.val, by omega⟩ f a b (by rw [← ha, block_row]) (by rw [← hb, block_row])
    (fun e => (σ e : EReal)) (funext fun e => (hσ e).symm)
  rw [hsm.1, hsm.2] at hw
  rw [block_row]
  exact hk.trans ((sum_gated a b _ _ hg.1 hg.2.1 hg.2.2.1 hg.2.2.2 _ _).trans hw.symm)

/-- The algebraic claim. -/
theorem equal : Cert.algebraic_KernelIdeal_ReferenceIdeal_pre_finite_and_in_range_KernelIdeal (hKernelIdeal := Cert.KernelIdeal.Gen.facts)
    (hReferenceIdeal := Cert.ReferenceIdeal.Gen.facts) (hPre_finite_and_in_range_KernelIdeal := pre_facts) := by
  intro m g m' g' hpre hagree
  have := pre_facts
  refine ⟨Cert.ReferenceIdeal.Value.res_main_v33 m' 0, ?_, ?_⟩
  · refine θ_run_mono (run_main m g) ?_
    intro r hr c
    obtain ⟨q0, q1, q2, q3, q5⟩ := hr.1 c
    refine ⟨q5.trans ?_, q0, q1, q2, q3⟩
    rw [res_eq]
    have hp := pre_reads _ _ _ _ (hpre c)
    rw [(hagree c).1, (hagree c).2.1, (hagree c).2.2.1] at hp
    exact final_eq m _ _ _ _ (fun c => (hagree c).1) (fun c => (hagree c).2.1) (fun c => (hagree c).2.2.1) (fun c => (hagree c).2.2.2) c hp.1 hp.2.1 hp.2.2
  · refine θ_run_mono (Cert.ReferenceIdeal.Value.run m' g') ?_
    intro r hr
    exact hr 0

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

open Cert.KernelIdeal.Hop Cert.Moe in
theorem claim : Cert.Claim := ⟨Cert.Kernel.Gen.facts, Cert.KernelIdeal.Gen.facts, Cert.ReferenceIdeal.Gen.facts, pre_facts, pre_facts_whole,
  frame_kernel, frame_ideal, fun m g _ => frame_ideal m g trivial, frame_reference, fun m g _ => frame_reference m g trivial, trivial, equal⟩

end Cert.Proof

end
